-- ==== Defs.lean ====
def Pre_DvGate (m : (ℓ : Loc Cert.DvGate.nD Cert.DvGate.τ Cert.DvGate.sig) → Buf (Elt Bits) ℓ) : Prop :=
  True

def Pre_DvGateIdeal (m : (ℓ : Loc Cert.DvGateIdeal.nD Cert.DvGateIdeal.τ Cert.DvGateIdeal.sig) → Buf (Elt Ideal) ℓ) : Prop :=
  True

def Pre_DvGateRefIdeal (m : (ℓ : Loc Cert.DvGateRefIdeal.nD Cert.DvGateRefIdeal.τ Cert.DvGateRefIdeal.sig) → Buf (Elt Ideal) ℓ) : Prop :=
  True

def Pre_DvDown (m : (ℓ : Loc Cert.DvDown.nD Cert.DvDown.τ Cert.DvDown.sig) → Buf (Elt Bits) ℓ) : Prop :=
  True

def Pre_DvDownIdeal (m : (ℓ : Loc Cert.DvDownIdeal.nD Cert.DvDownIdeal.τ Cert.DvDownIdeal.sig) → Buf (Elt Ideal) ℓ) : Prop :=
  True

def Pre_DvDownRefIdeal (m : (ℓ : Loc Cert.DvDownRefIdeal.nD Cert.DvDownRefIdeal.τ Cert.DvDownRefIdeal.sig) → Buf (Elt Ideal) ℓ) : Prop :=
  True

def Pre_QuantX (m : (ℓ : Loc Cert.QuantX.nD Cert.QuantX.τ Cert.QuantX.sig) → Buf (Elt Bits) ℓ) : Prop :=
  True

def Pre_QuantXIdeal (m : (ℓ : Loc Cert.QuantXIdeal.nD Cert.QuantXIdeal.τ Cert.QuantXIdeal.sig) → Buf (Elt Ideal) ℓ) : Prop :=
  True

def Pre_QuantXRefIdeal (m : (ℓ : Loc Cert.QuantXRefIdeal.nD Cert.QuantXRefIdeal.τ Cert.QuantXRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def quiescent_DvGate [hDvGate : Cert.DvGate.Facts] : Prop :=
  ∀ (m : (ℓ : Loc Cert.DvGate.nD Cert.DvGate.τ Cert.DvGate.sig) → Buf (Elt Bits) ℓ) (g : Dev Cert.DvGate.nD → PrngReg), Pre_DvGate m →
    θ_run (Cert.DvGate.defs (F := Bits)) (onTc (τ := Cert.DvGate.τ) (Cert.DvGate.main (F := Bits))) ⟨m, fun _ => 0, g⟩ (fun r => (∀ c : Dev Cert.DvGate.nD,
      r.2.mem ((c.tc : Thread Cert.DvGate.nD Cert.DvGate.τ).loc Cert.DvGate.main_arg0) = m ((c.tc : Thread Cert.DvGate.nD Cert.DvGate.τ).loc Cert.DvGate.main_arg0)
      ∧ r.2.mem ((c.tc : Thread Cert.DvGate.nD Cert.DvGate.τ).loc Cert.DvGate.main_arg1) = m ((c.tc : Thread Cert.DvGate.nD Cert.DvGate.τ).loc Cert.DvGate.main_arg1)
      ∧ r.2.mem ((c.tc : Thread Cert.DvGate.nD Cert.DvGate.τ).loc Cert.DvGate.main_arg2) = m ((c.tc : Thread Cert.DvGate.nD Cert.DvGate.τ).loc Cert.DvGate.main_arg2)
      ∧ r.2.mem ((c.tc : Thread Cert.DvGate.nD Cert.DvGate.τ).loc Cert.DvGate.main_arg3) = m ((c.tc : Thread Cert.DvGate.nD Cert.DvGate.τ).loc Cert.DvGate.main_arg3)
      ∧ r.2.mem ((c.tc : Thread Cert.DvGate.nD Cert.DvGate.τ).loc Cert.DvGate.main_arg4) = m ((c.tc : Thread Cert.DvGate.nD Cert.DvGate.τ).loc Cert.DvGate.main_arg4))
      ∧ r.2.sem = fun _ => 0)

def quiescent_DvGateIdeal [hDvGateIdeal : Cert.DvGateIdeal.Facts] : Prop :=
  ∀ (m : (ℓ : Loc Cert.DvGateIdeal.nD Cert.DvGateIdeal.τ Cert.DvGateIdeal.sig) → Buf (Elt Ideal) ℓ) (g : Dev Cert.DvGateIdeal.nD → PrngReg), Pre_DvGateIdeal m →
    θ_run (Cert.DvGateIdeal.defs (F := Ideal)) (onTc (τ := Cert.DvGateIdeal.τ) (Cert.DvGateIdeal.main (F := Ideal))) ⟨m, fun _ => 0, g⟩ (fun r => (∀ c : Dev Cert.DvGateIdeal.nD,
      r.2.mem ((c.tc : Thread Cert.DvGateIdeal.nD Cert.DvGateIdeal.τ).loc Cert.DvGateIdeal.main_arg0) = m ((c.tc : Thread Cert.DvGateIdeal.nD Cert.DvGateIdeal.τ).loc Cert.DvGateIdeal.main_arg0)
      ∧ r.2.mem ((c.tc : Thread Cert.DvGateIdeal.nD Cert.DvGateIdeal.τ).loc Cert.DvGateIdeal.main_arg1) = m ((c.tc : Thread Cert.DvGateIdeal.nD Cert.DvGateIdeal.τ).loc Cert.DvGateIdeal.main_arg1)
      ∧ r.2.mem ((c.tc : Thread Cert.DvGateIdeal.nD Cert.DvGateIdeal.τ).loc Cert.DvGateIdeal.main_arg2) = m ((c.tc : Thread Cert.DvGateIdeal.nD Cert.DvGateIdeal.τ).loc Cert.DvGateIdeal.main_arg2)
      ∧ r.2.mem ((c.tc : Thread Cert.DvGateIdeal.nD Cert.DvGateIdeal.τ).loc Cert.DvGateIdeal.main_arg3) = m ((c.tc : Thread Cert.DvGateIdeal.nD Cert.DvGateIdeal.τ).loc Cert.DvGateIdeal.main_arg3)
      ∧ r.2.mem ((c.tc : Thread Cert.DvGateIdeal.nD Cert.DvGateIdeal.τ).loc Cert.DvGateIdeal.main_arg4) = m ((c.tc : Thread Cert.DvGateIdeal.nD Cert.DvGateIdeal.τ).loc Cert.DvGateIdeal.main_arg4))
      ∧ r.2.sem = fun _ => 0)

def quiescent_DvGateRefIdeal [hDvGateRefIdeal : Cert.DvGateRefIdeal.Facts] : Prop :=
  ∀ (m : (ℓ : Loc Cert.DvGateRefIdeal.nD Cert.DvGateRefIdeal.τ Cert.DvGateRefIdeal.sig) → Buf (Elt Ideal) ℓ) (g : Dev Cert.DvGateRefIdeal.nD → PrngReg), Pre_DvGateRefIdeal m →
    θ_run (Cert.DvGateRefIdeal.defs (F := Ideal)) (onTc (τ := Cert.DvGateRefIdeal.τ) (Cert.DvGateRefIdeal.main (F := Ideal))) ⟨m, fun _ => 0, g⟩ (fun r => (∀ c : Dev Cert.DvGateRefIdeal.nD,
      r.2.mem ((c.tc : Thread Cert.DvGateRefIdeal.nD Cert.DvGateRefIdeal.τ).loc Cert.DvGateRefIdeal.main_arg0) = m ((c.tc : Thread Cert.DvGateRefIdeal.nD Cert.DvGateRefIdeal.τ).loc Cert.DvGateRefIdeal.main_arg0)
      ∧ r.2.mem ((c.tc : Thread Cert.DvGateRefIdeal.nD Cert.DvGateRefIdeal.τ).loc Cert.DvGateRefIdeal.main_arg1) = m ((c.tc : Thread Cert.DvGateRefIdeal.nD Cert.DvGateRefIdeal.τ).loc Cert.DvGateRefIdeal.main_arg1)
      ∧ r.2.mem ((c.tc : Thread Cert.DvGateRefIdeal.nD Cert.DvGateRefIdeal.τ).loc Cert.DvGateRefIdeal.main_arg2) = m ((c.tc : Thread Cert.DvGateRefIdeal.nD Cert.DvGateRefIdeal.τ).loc Cert.DvGateRefIdeal.main_arg2)
      ∧ r.2.mem ((c.tc : Thread Cert.DvGateRefIdeal.nD Cert.DvGateRefIdeal.τ).loc Cert.DvGateRefIdeal.main_arg3) = m ((c.tc : Thread Cert.DvGateRefIdeal.nD Cert.DvGateRefIdeal.τ).loc Cert.DvGateRefIdeal.main_arg3)
      ∧ r.2.mem ((c.tc : Thread Cert.DvGateRefIdeal.nD Cert.DvGateRefIdeal.τ).loc Cert.DvGateRefIdeal.main_arg4) = m ((c.tc : Thread Cert.DvGateRefIdeal.nD Cert.DvGateRefIdeal.τ).loc Cert.DvGateRefIdeal.main_arg4))
      ∧ r.2.sem = fun _ => 0)

def quiescent_DvDown [hDvDown : Cert.DvDown.Facts] : Prop :=
  ∀ (m : (ℓ : Loc Cert.DvDown.nD Cert.DvDown.τ Cert.DvDown.sig) → Buf (Elt Bits) ℓ) (g : Dev Cert.DvDown.nD → PrngReg), Pre_DvDown m →
    θ_run (Cert.DvDown.defs (F := Bits)) (onTc (τ := Cert.DvDown.τ) (Cert.DvDown.main (F := Bits))) ⟨m, fun _ => 0, g⟩ (fun r => (∀ c : Dev Cert.DvDown.nD,
      r.2.mem ((c.tc : Thread Cert.DvDown.nD Cert.DvDown.τ).loc Cert.DvDown.main_arg0) = m ((c.tc : Thread Cert.DvDown.nD Cert.DvDown.τ).loc Cert.DvDown.main_arg0)
      ∧ r.2.mem ((c.tc : Thread Cert.DvDown.nD Cert.DvDown.τ).loc Cert.DvDown.main_arg1) = m ((c.tc : Thread Cert.DvDown.nD Cert.DvDown.τ).loc Cert.DvDown.main_arg1)
      ∧ r.2.mem ((c.tc : Thread Cert.DvDown.nD Cert.DvDown.τ).loc Cert.DvDown.main_arg2) = m ((c.tc : Thread Cert.DvDown.nD Cert.DvDown.τ).loc Cert.DvDown.main_arg2)
      ∧ r.2.mem ((c.tc : Thread Cert.DvDown.nD Cert.DvDown.τ).loc Cert.DvDown.main_arg3) = m ((c.tc : Thread Cert.DvDown.nD Cert.DvDown.τ).loc Cert.DvDown.main_arg3)
      ∧ r.2.mem ((c.tc : Thread Cert.DvDown.nD Cert.DvDown.τ).loc Cert.DvDown.main_arg4) = m ((c.tc : Thread Cert.DvDown.nD Cert.DvDown.τ).loc Cert.DvDown.main_arg4))
      ∧ r.2.sem = fun _ => 0)

def quiescent_DvDownIdeal [hDvDownIdeal : Cert.DvDownIdeal.Facts] : Prop :=
  ∀ (m : (ℓ : Loc Cert.DvDownIdeal.nD Cert.DvDownIdeal.τ Cert.DvDownIdeal.sig) → Buf (Elt Ideal) ℓ) (g : Dev Cert.DvDownIdeal.nD → PrngReg), Pre_DvDownIdeal m →
    θ_run (Cert.DvDownIdeal.defs (F := Ideal)) (onTc (τ := Cert.DvDownIdeal.τ) (Cert.DvDownIdeal.main (F := Ideal))) ⟨m, fun _ => 0, g⟩ (fun r => (∀ c : Dev Cert.DvDownIdeal.nD,
      r.2.mem ((c.tc : Thread Cert.DvDownIdeal.nD Cert.DvDownIdeal.τ).loc Cert.DvDownIdeal.main_arg0) = m ((c.tc : Thread Cert.DvDownIdeal.nD Cert.DvDownIdeal.τ).loc Cert.DvDownIdeal.main_arg0)
      ∧ r.2.mem ((c.tc : Thread Cert.DvDownIdeal.nD Cert.DvDownIdeal.τ).loc Cert.DvDownIdeal.main_arg1) = m ((c.tc : Thread Cert.DvDownIdeal.nD Cert.DvDownIdeal.τ).loc Cert.DvDownIdeal.main_arg1)
      ∧ r.2.mem ((c.tc : Thread Cert.DvDownIdeal.nD Cert.DvDownIdeal.τ).loc Cert.DvDownIdeal.main_arg2) = m ((c.tc : Thread Cert.DvDownIdeal.nD Cert.DvDownIdeal.τ).loc Cert.DvDownIdeal.main_arg2)
      ∧ r.2.mem ((c.tc : Thread Cert.DvDownIdeal.nD Cert.DvDownIdeal.τ).loc Cert.DvDownIdeal.main_arg3) = m ((c.tc : Thread Cert.DvDownIdeal.nD Cert.DvDownIdeal.τ).loc Cert.DvDownIdeal.main_arg3)
      ∧ r.2.mem ((c.tc : Thread Cert.DvDownIdeal.nD Cert.DvDownIdeal.τ).loc Cert.DvDownIdeal.main_arg4) = m ((c.tc : Thread Cert.DvDownIdeal.nD Cert.DvDownIdeal.τ).loc Cert.DvDownIdeal.main_arg4))
      ∧ r.2.sem = fun _ => 0)

def quiescent_DvDownRefIdeal [hDvDownRefIdeal : Cert.DvDownRefIdeal.Facts] : Prop :=
  ∀ (m : (ℓ : Loc Cert.DvDownRefIdeal.nD Cert.DvDownRefIdeal.τ Cert.DvDownRefIdeal.sig) → Buf (Elt Ideal) ℓ) (g : Dev Cert.DvDownRefIdeal.nD → PrngReg), Pre_DvDownRefIdeal m →
    θ_run (Cert.DvDownRefIdeal.defs (F := Ideal)) (onTc (τ := Cert.DvDownRefIdeal.τ) (Cert.DvDownRefIdeal.main (F := Ideal))) ⟨m, fun _ => 0, g⟩ (fun r => (∀ c : Dev Cert.DvDownRefIdeal.nD,
      r.2.mem ((c.tc : Thread Cert.DvDownRefIdeal.nD Cert.DvDownRefIdeal.τ).loc Cert.DvDownRefIdeal.main_arg0) = m ((c.tc : Thread Cert.DvDownRefIdeal.nD Cert.DvDownRefIdeal.τ).loc Cert.DvDownRefIdeal.main_arg0)
      ∧ r.2.mem ((c.tc : Thread Cert.DvDownRefIdeal.nD Cert.DvDownRefIdeal.τ).loc Cert.DvDownRefIdeal.main_arg1) = m ((c.tc : Thread Cert.DvDownRefIdeal.nD Cert.DvDownRefIdeal.τ).loc Cert.DvDownRefIdeal.main_arg1)
      ∧ r.2.mem ((c.tc : Thread Cert.DvDownRefIdeal.nD Cert.DvDownRefIdeal.τ).loc Cert.DvDownRefIdeal.main_arg2) = m ((c.tc : Thread Cert.DvDownRefIdeal.nD Cert.DvDownRefIdeal.τ).loc Cert.DvDownRefIdeal.main_arg2)
      ∧ r.2.mem ((c.tc : Thread Cert.DvDownRefIdeal.nD Cert.DvDownRefIdeal.τ).loc Cert.DvDownRefIdeal.main_arg3) = m ((c.tc : Thread Cert.DvDownRefIdeal.nD Cert.DvDownRefIdeal.τ).loc Cert.DvDownRefIdeal.main_arg3)
      ∧ r.2.mem ((c.tc : Thread Cert.DvDownRefIdeal.nD Cert.DvDownRefIdeal.τ).loc Cert.DvDownRefIdeal.main_arg4) = m ((c.tc : Thread Cert.DvDownRefIdeal.nD Cert.DvDownRefIdeal.τ).loc Cert.DvDownRefIdeal.main_arg4))
      ∧ r.2.sem = fun _ => 0)

def quiescent_QuantX [hQuantX : Cert.QuantX.Facts] : Prop :=
  ∀ (m : (ℓ : Loc Cert.QuantX.nD Cert.QuantX.τ Cert.QuantX.sig) → Buf (Elt Bits) ℓ) (g : Dev Cert.QuantX.nD → PrngReg), Pre_QuantX m →
    θ_run (Cert.QuantX.defs (F := Bits)) (onTc (τ := Cert.QuantX.τ) (Cert.QuantX.main (F := Bits))) ⟨m, fun _ => 0, g⟩ (fun r => (∀ c : Dev Cert.QuantX.nD,
      r.2.mem ((c.tc : Thread Cert.QuantX.nD Cert.QuantX.τ).loc Cert.QuantX.main_arg0) = m ((c.tc : Thread Cert.QuantX.nD Cert.QuantX.τ).loc Cert.QuantX.main_arg0))
      ∧ r.2.sem = fun _ => 0)

def quiescent_QuantXIdeal [hQuantXIdeal : Cert.QuantXIdeal.Facts] : Prop :=
  ∀ (m : (ℓ : Loc Cert.QuantXIdeal.nD Cert.QuantXIdeal.τ Cert.QuantXIdeal.sig) → Buf (Elt Ideal) ℓ) (g : Dev Cert.QuantXIdeal.nD → PrngReg), Pre_QuantXIdeal m →
    θ_run (Cert.QuantXIdeal.defs (F := Ideal)) (onTc (τ := Cert.QuantXIdeal.τ) (Cert.QuantXIdeal.main (F := Ideal))) ⟨m, fun _ => 0, g⟩ (fun r => (∀ c : Dev Cert.QuantXIdeal.nD,
      r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0))
      ∧ r.2.sem = fun _ => 0)

def quiescent_QuantXRefIdeal [hQuantXRefIdeal : Cert.QuantXRefIdeal.Facts] : Prop :=
  ∀ (m : (ℓ : Loc Cert.QuantXRefIdeal.nD Cert.QuantXRefIdeal.τ Cert.QuantXRefIdeal.sig) → Buf (Elt Ideal) ℓ) (g : Dev Cert.QuantXRefIdeal.nD → PrngReg), Pre_QuantXRefIdeal m →
    θ_run (Cert.QuantXRefIdeal.defs (F := Ideal)) (onTc (τ := Cert.QuantXRefIdeal.τ) (Cert.QuantXRefIdeal.main (F := Ideal))) ⟨m, fun _ => 0, g⟩ (fun r => (∀ c : Dev Cert.QuantXRefIdeal.nD,
      r.2.mem ((c.tc : Thread Cert.QuantXRefIdeal.nD Cert.QuantXRefIdeal.τ).loc Cert.QuantXRefIdeal.main_arg0) = m ((c.tc : Thread Cert.QuantXRefIdeal.nD Cert.QuantXRefIdeal.τ).loc Cert.QuantXRefIdeal.main_arg0))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1)
      ∧ r.2.mem ((c.tc : Thread Cert.DAct.nD Cert.DAct.τ).loc Cert.DAct.main_arg2) = m ((c.tc : Thread Cert.DAct.nD Cert.DAct.τ).loc Cert.DAct.main_arg2)
      ∧ r.2.mem ((c.tc : Thread Cert.DAct.nD Cert.DAct.τ).loc Cert.DAct.main_arg3) = m ((c.tc : Thread Cert.DAct.nD Cert.DAct.τ).loc Cert.DAct.main_arg3)
      ∧ r.2.mem ((c.tc : Thread Cert.DAct.nD Cert.DAct.τ).loc Cert.DAct.main_arg4) = m ((c.tc : Thread Cert.DAct.nD Cert.DAct.τ).loc Cert.DAct.main_arg4))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
      ∧ r.2.mem ((c.tc : Thread Cert.DActIdeal.nD Cert.DActIdeal.τ).loc Cert.DActIdeal.main_arg2) = m ((c.tc : Thread Cert.DActIdeal.nD Cert.DActIdeal.τ).loc Cert.DActIdeal.main_arg2)
      ∧ r.2.mem ((c.tc : Thread Cert.DActIdeal.nD Cert.DActIdeal.τ).loc Cert.DActIdeal.main_arg3) = m ((c.tc : Thread Cert.DActIdeal.nD Cert.DActIdeal.τ).loc Cert.DActIdeal.main_arg3)
      ∧ r.2.mem ((c.tc : Thread Cert.DActIdeal.nD Cert.DActIdeal.τ).loc Cert.DActIdeal.main_arg4) = m ((c.tc : Thread Cert.DActIdeal.nD Cert.DActIdeal.τ).loc Cert.DActIdeal.main_arg4))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1)
      ∧ r.2.mem ((c.tc : Thread Cert.DActRefIdeal.nD Cert.DActRefIdeal.τ).loc Cert.DActRefIdeal.main_arg2) = m ((c.tc : Thread Cert.DActRefIdeal.nD Cert.DActRefIdeal.τ).loc Cert.DActRefIdeal.main_arg2)
      ∧ r.2.mem ((c.tc : Thread Cert.DActRefIdeal.nD Cert.DActRefIdeal.τ).loc Cert.DActRefIdeal.main_arg3) = m ((c.tc : Thread Cert.DActRefIdeal.nD Cert.DActRefIdeal.τ).loc Cert.DActRefIdeal.main_arg3)
      ∧ r.2.mem ((c.tc : Thread Cert.DActRefIdeal.nD Cert.DActRefIdeal.τ).loc Cert.DActRefIdeal.main_arg4) = m ((c.tc : Thread Cert.DActRefIdeal.nD Cert.DActRefIdeal.τ).loc Cert.DActRefIdeal.main_arg4))
      ∧ r.2.sem = fun _ => 0)

def preserves_DvGate_DvGateIdeal : Prop :=
  True

def algebraic_DvGateIdeal_DvGateRefIdeal [hDvGateIdeal : Cert.DvGateIdeal.Facts] [hDvGateRefIdeal : Cert.DvGateRefIdeal.Facts] : Prop :=
  ∀ (m : (ℓ : Loc Cert.DvGateIdeal.nD Cert.DvGateIdeal.τ Cert.DvGateIdeal.sig) → Buf (Elt Ideal) ℓ) (g : Dev Cert.DvGateIdeal.nD → PrngReg)
    (m' : (ℓ : Loc Cert.DvGateRefIdeal.nD Cert.DvGateRefIdeal.τ Cert.DvGateRefIdeal.sig) → Buf (Elt Ideal) ℓ) (g' : Dev Cert.DvGateRefIdeal.nD → PrngReg), Pre_DvGateIdeal m →
    (∀ c : Dev Cert.DvGateIdeal.nD,
      m' ((c.tc : Thread Cert.DvGateRefIdeal.nD Cert.DvGateRefIdeal.τ).loc Cert.DvGateRefIdeal.main_arg0) = m ((c.tc : Thread Cert.DvGateIdeal.nD Cert.DvGateIdeal.τ).loc Cert.DvGateIdeal.main_arg0)
      ∧ m' ((c.tc : Thread Cert.DvGateRefIdeal.nD Cert.DvGateRefIdeal.τ).loc Cert.DvGateRefIdeal.main_arg1) = m ((c.tc : Thread Cert.DvGateIdeal.nD Cert.DvGateIdeal.τ).loc Cert.DvGateIdeal.main_arg1)
      ∧ m' ((c.tc : Thread Cert.DvGateRefIdeal.nD Cert.DvGateRefIdeal.τ).loc Cert.DvGateRefIdeal.main_arg2) = m ((c.tc : Thread Cert.DvGateIdeal.nD Cert.DvGateIdeal.τ).loc Cert.DvGateIdeal.main_arg2)
      ∧ m' ((c.tc : Thread Cert.DvGateRefIdeal.nD Cert.DvGateRefIdeal.τ).loc Cert.DvGateRefIdeal.main_arg3) = m ((c.tc : Thread Cert.DvGateIdeal.nD Cert.DvGateIdeal.τ).loc Cert.DvGateIdeal.main_arg3)
      ∧ m' ((c.tc : Thread Cert.DvGateRefIdeal.nD Cert.DvGateRefIdeal.τ).loc Cert.DvGateRefIdeal.main_arg4) = m ((c.tc : Thread Cert.DvGateIdeal.nD Cert.DvGateIdeal.τ).loc Cert.DvGateIdeal.main_arg4)) →
    ∃ (v0 : (c : Dev Cert.DvGateIdeal.nD) → Buf (Elt Ideal) ((c.tc : Thread Cert.DvGateIdeal.nD Cert.DvGateIdeal.τ).loc Cert.DvGateIdeal.main_v0)),
      θ_run (Cert.DvGateIdeal.defs (F := Ideal)) (onTc (τ := Cert.DvGateIdeal.τ) (Cert.DvGateIdeal.main (F := Ideal))) ⟨m, fun _ => 0, g⟩ (fun r => ∀ c : Dev Cert.DvGateIdeal.nD,
          r.2.mem ((c.tc : Thread Cert.DvGateIdeal.nD Cert.DvGateIdeal.τ).loc Cert.DvGateIdeal.main_v0) = v0 c
          ∧ r.2.mem ((c.tc : Thread Cert.DvGateIdeal.nD Cert.DvGateIdeal.τ).loc Cert.DvGateIdeal.main_arg0) = m ((c.tc : Thread Cert.DvGateIdeal.nD Cert.DvGateIdeal.τ).loc Cert.DvGateIdeal.main_arg0)
          ∧ r.2.mem ((c.tc : Thread Cert.DvGateIdeal.nD Cert.DvGateIdeal.τ).loc Cert.DvGateIdeal.main_arg1) = m ((c.tc : Thread Cert.DvGateIdeal.nD Cert.DvGateIdeal.τ).loc Cert.DvGateIdeal.main_arg1)
          ∧ r.2.mem ((c.tc : Thread Cert.DvGateIdeal.nD Cert.DvGateIdeal.τ).loc Cert.DvGateIdeal.main_arg2) = m ((c.tc : Thread Cert.DvGateIdeal.nD Cert.DvGateIdeal.τ).loc Cert.DvGateIdeal.main_arg2)
          ∧ r.2.mem ((c.tc : Thread Cert.DvGateIdeal.nD Cert.DvGateIdeal.τ).loc Cert.DvGateIdeal.main_arg3) = m ((c.tc : Thread Cert.DvGateIdeal.nD Cert.DvGateIdeal.τ).loc Cert.DvGateIdeal.main_arg3)
          ∧ r.2.mem ((c.tc : Thread Cert.DvGateIdeal.nD Cert.DvGateIdeal.τ).loc Cert.DvGateIdeal.main_arg4) = m ((c.tc : Thread Cert.DvGateIdeal.nD Cert.DvGateIdeal.τ).loc Cert.DvGateIdeal.main_arg4))
      ∧ θ_run (Cert.DvGateRefIdeal.defs (F := Ideal)) (onTc (τ := Cert.DvGateRefIdeal.τ) (Cert.DvGateRefIdeal.main (F := Ideal))) ⟨m', fun _ => 0, g'⟩ (fun r => ∀ c : Dev Cert.DvGateRefIdeal.nD,
          r.2.mem ((c.tc : Thread Cert.DvGateRefIdeal.nD Cert.DvGateRefIdeal.τ).loc Cert.DvGateRefIdeal.main_v54) = v0 c
          ∧ r.2.mem ((c.tc : Thread Cert.DvGateRefIdeal.nD Cert.DvGateRefIdeal.τ).loc Cert.DvGateRefIdeal.main_arg0) = m' ((c.tc : Thread Cert.DvGateRefIdeal.nD Cert.DvGateRefIdeal.τ).loc Cert.DvGateRefIdeal.main_arg0)
          ∧ r.2.mem ((c.tc : Thread Cert.DvGateRefIdeal.nD Cert.DvGateRefIdeal.τ).loc Cert.DvGateRefIdeal.main_arg1) = m' ((c.tc : Thread Cert.DvGateRefIdeal.nD Cert.DvGateRefIdeal.τ).loc Cert.DvGateRefIdeal.main_arg1)
          ∧ r.2.mem ((c.tc : Thread Cert.DvGateRefIdeal.nD Cert.DvGateRefIdeal.τ).loc Cert.DvGateRefIdeal.main_arg2) = m' ((c.tc : Thread Cert.DvGateRefIdeal.nD Cert.DvGateRefIdeal.τ).loc Cert.DvGateRefIdeal.main_arg2)
          ∧ r.2.mem ((c.tc : Thread Cert.DvGateRefIdeal.nD Cert.DvGateRefIdeal.τ).loc Cert.DvGateRefIdeal.main_arg3) = m' ((c.tc : Thread Cert.DvGateRefIdeal.nD Cert.DvGateRefIdeal.τ).loc Cert.DvGateRefIdeal.main_arg3)
          ∧ r.2.mem ((c.tc : Thread Cert.DvGateRefIdeal.nD Cert.DvGateRefIdeal.τ).loc Cert.DvGateRefIdeal.main_arg4) = m' ((c.tc : Thread Cert.DvGateRefIdeal.nD Cert.DvGateRefIdeal.τ).loc Cert.DvGateRefIdeal.main_arg4))

def preserves_DvDown_DvDownIdeal : Prop :=
  True

def algebraic_DvDownIdeal_DvDownRefIdeal [hDvDownIdeal : Cert.DvDownIdeal.Facts] [hDvDownRefIdeal : Cert.DvDownRefIdeal.Facts] : Prop :=
  ∀ (m : (ℓ : Loc Cert.DvDownIdeal.nD Cert.DvDownIdeal.τ Cert.DvDownIdeal.sig) → Buf (Elt Ideal) ℓ) (g : Dev Cert.DvDownIdeal.nD → PrngReg)
    (m' : (ℓ : Loc Cert.DvDownRefIdeal.nD Cert.DvDownRefIdeal.τ Cert.DvDownRefIdeal.sig) → Buf (Elt Ideal) ℓ) (g' : Dev Cert.DvDownRefIdeal.nD → PrngReg), Pre_DvDownIdeal m →
    (∀ c : Dev Cert.DvDownIdeal.nD,
      m' ((c.tc : Thread Cert.DvDownRefIdeal.nD Cert.DvDownRefIdeal.τ).loc Cert.DvDownRefIdeal.main_arg0) = m ((c.tc : Thread Cert.DvDownIdeal.nD Cert.DvDownIdeal.τ).loc Cert.DvDownIdeal.main_arg0)
      ∧ m' ((c.tc : Thread Cert.DvDownRefIdeal.nD Cert.DvDownRefIdeal.τ).loc Cert.DvDownRefIdeal.main_arg1) = m ((c.tc : Thread Cert.DvDownIdeal.nD Cert.DvDownIdeal.τ).loc Cert.DvDownIdeal.main_arg1)
      ∧ m' ((c.tc : Thread Cert.DvDownRefIdeal.nD Cert.DvDownRefIdeal.τ).loc Cert.DvDownRefIdeal.main_arg2) = m ((c.tc : Thread Cert.DvDownIdeal.nD Cert.DvDownIdeal.τ).loc Cert.DvDownIdeal.main_arg2)
      ∧ m' ((c.tc : Thread Cert.DvDownRefIdeal.nD Cert.DvDownRefIdeal.τ).loc Cert.DvDownRefIdeal.main_arg3) = m ((c.tc : Thread Cert.DvDownIdeal.nD Cert.DvDownIdeal.τ).loc Cert.DvDownIdeal.main_arg3)
      ∧ m' ((c.tc : Thread Cert.DvDownRefIdeal.nD Cert.DvDownRefIdeal.τ).loc Cert.DvDownRefIdeal.main_arg4) = m ((c.tc : Thread Cert.DvDownIdeal.nD Cert.DvDownIdeal.τ).loc Cert.DvDownIdeal.main_arg4)) →
    ∃ (v0 : (c : Dev Cert.DvDownIdeal.nD) → Buf (Elt Ideal) ((c.tc : Thread Cert.DvDownIdeal.nD Cert.DvDownIdeal.τ).loc Cert.DvDownIdeal.main_v0)),
      θ_run (Cert.DvDownIdeal.defs (F := Ideal)) (onTc (τ := Cert.DvDownIdeal.τ) (Cert.DvDownIdeal.main (F := Ideal))) ⟨m, fun _ => 0, g⟩ (fun r => ∀ c : Dev Cert.DvDownIdeal.nD,
          r.2.mem ((c.tc : Thread Cert.DvDownIdeal.nD Cert.DvDownIdeal.τ).loc Cert.DvDownIdeal.main_v0) = v0 c
          ∧ r.2.mem ((c.tc : Thread Cert.DvDownIdeal.nD Cert.DvDownIdeal.τ).loc Cert.DvDownIdeal.main_arg0) = m ((c.tc : Thread Cert.DvDownIdeal.nD Cert.DvDownIdeal.τ).loc Cert.DvDownIdeal.main_arg0)
          ∧ r.2.mem ((c.tc : Thread Cert.DvDownIdeal.nD Cert.DvDownIdeal.τ).loc Cert.DvDownIdeal.main_arg1) = m ((c.tc : Thread Cert.DvDownIdeal.nD Cert.DvDownIdeal.τ).loc Cert.DvDownIdeal.main_arg1)
          ∧ r.2.mem ((c.tc : Thread Cert.DvDownIdeal.nD Cert.DvDownIdeal.τ).loc Cert.DvDownIdeal.main_arg2) = m ((c.tc : Thread Cert.DvDownIdeal.nD Cert.DvDownIdeal.τ).loc Cert.DvDownIdeal.main_arg2)
          ∧ r.2.mem ((c.tc : Thread Cert.DvDownIdeal.nD Cert.DvDownIdeal.τ).loc Cert.DvDownIdeal.main_arg3) = m ((c.tc : Thread Cert.DvDownIdeal.nD Cert.DvDownIdeal.τ).loc Cert.DvDownIdeal.main_arg3)
          ∧ r.2.mem ((c.tc : Thread Cert.DvDownIdeal.nD Cert.DvDownIdeal.τ).loc Cert.DvDownIdeal.main_arg4) = m ((c.tc : Thread Cert.DvDownIdeal.nD Cert.DvDownIdeal.τ).loc Cert.DvDownIdeal.main_arg4))
      ∧ θ_run (Cert.DvDownRefIdeal.defs (F := Ideal)) (onTc (τ := Cert.DvDownRefIdeal.τ) (Cert.DvDownRefIdeal.main (F := Ideal))) ⟨m', fun _ => 0, g'⟩ (fun r => ∀ c : Dev Cert.DvDownRefIdeal.nD,
          r.2.mem ((c.tc : Thread Cert.DvDownRefIdeal.nD Cert.DvDownRefIdeal.τ).loc Cert.DvDownRefIdeal.main_v54) = v0 c
          ∧ r.2.mem ((c.tc : Thread Cert.DvDownRefIdeal.nD Cert.DvDownRefIdeal.τ).loc Cert.DvDownRefIdeal.main_arg0) = m' ((c.tc : Thread Cert.DvDownRefIdeal.nD Cert.DvDownRefIdeal.τ).loc Cert.DvDownRefIdeal.main_arg0)
          ∧ r.2.mem ((c.tc : Thread Cert.DvDownRefIdeal.nD Cert.DvDownRefIdeal.τ).loc Cert.DvDownRefIdeal.main_arg1) = m' ((c.tc : Thread Cert.DvDownRefIdeal.nD Cert.DvDownRefIdeal.τ).loc Cert.DvDownRefIdeal.main_arg1)
          ∧ r.2.mem ((c.tc : Thread Cert.DvDownRefIdeal.nD Cert.DvDownRefIdeal.τ).loc Cert.DvDownRefIdeal.main_arg2) = m' ((c.tc : Thread Cert.DvDownRefIdeal.nD Cert.DvDownRefIdeal.τ).loc Cert.DvDownRefIdeal.main_arg2)
          ∧ r.2.mem ((c.tc : Thread Cert.DvDownRefIdeal.nD Cert.DvDownRefIdeal.τ).loc Cert.DvDownRefIdeal.main_arg3) = m' ((c.tc : Thread Cert.DvDownRefIdeal.nD Cert.DvDownRefIdeal.τ).loc Cert.DvDownRefIdeal.main_arg3)
          ∧ r.2.mem ((c.tc : Thread Cert.DvDownRefIdeal.nD Cert.DvDownRefIdeal.τ).loc Cert.DvDownRefIdeal.main_arg4) = m' ((c.tc : Thread Cert.DvDownRefIdeal.nD Cert.DvDownRefIdeal.τ).loc Cert.DvDownRefIdeal.main_arg4))

def preserves_QuantX_QuantXIdeal : Prop :=
  True

def algebraic_QuantXIdeal_QuantXRefIdeal [hQuantXIdeal : Cert.QuantXIdeal.Facts] [hQuantXRefIdeal : Cert.QuantXRefIdeal.Facts] : Prop :=
  ∀ (m : (ℓ : Loc Cert.QuantXIdeal.nD Cert.QuantXIdeal.τ Cert.QuantXIdeal.sig) → Buf (Elt Ideal) ℓ) (g : Dev Cert.QuantXIdeal.nD → PrngReg)
    (m' : (ℓ : Loc Cert.QuantXRefIdeal.nD Cert.QuantXRefIdeal.τ Cert.QuantXRefIdeal.sig) → Buf (Elt Ideal) ℓ) (g' : Dev Cert.QuantXRefIdeal.nD → PrngReg), Pre_QuantXIdeal m →
    (∀ c : Dev Cert.QuantXIdeal.nD,
      m' ((c.tc : Thread Cert.QuantXRefIdeal.nD Cert.QuantXRefIdeal.τ).loc Cert.QuantXRefIdeal.main_arg0) = m ((c.tc : Thread Cert.QuantXIdeal.nD Cert.QuantXIdeal.τ).loc Cert.QuantXIdeal.main_arg0)) →
    ∃ (v0 : (c : Dev Cert.QuantXIdeal.nD) → Buf (Elt Ideal) ((c.tc : Thread Cert.QuantXIdeal.nD Cert.QuantXIdeal.τ).loc Cert.QuantXIdeal.main_v0_0)) (v1 : (c : Dev Cert.QuantXIdeal.nD) → Buf (Elt Ideal) ((c.tc : Thread Cert.QuantXIdeal.nD Cert.QuantXIdeal.τ).loc Cert.QuantXIdeal.main_v0_1)) (v2 : (c : Dev Cert.QuantXIdeal.nD) → Buf (Elt Ideal) ((c.tc : Thread Cert.QuantXIdeal.nD Cert.QuantXIdeal.τ).loc Cert.QuantXIdeal.main_v0_2)),
      θ_run (Cert.QuantXIdeal.defs (F := Ideal)) (onTc (τ := Cert.QuantXIdeal.τ) (Cert.QuantXIdeal.main (F := Ideal))) ⟨m, fun _ => 0, g⟩ (fun r => ∀ c : Dev Cert.QuantXIdeal.nD,
          r.2.mem ((c.tc : Thread Cert.QuantXIdeal.nD Cert.QuantXIdeal.τ).loc Cert.QuantXIdeal.main_v0_0) = v0 c
          ∧ r.2.mem ((c.tc : Thread Cert.QuantXIdeal.nD Cert.QuantXIdeal.τ).loc Cert.QuantXIdeal.main_v0_1) = v1 c
          ∧ r.2.mem ((c.tc : Thread Cert.QuantXIdeal.nD Cert.QuantXIdeal.τ).loc Cert.QuantXIdeal.main_v0_2) = v2 c
          ∧ r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0))
      ∧ θ_run (Cert.QuantXRefIdeal.defs (F := Ideal)) (onTc (τ := Cert.QuantXRefIdeal.τ) (Cert.QuantXRefIdeal.main (F := Ideal))) ⟨m', fun _ => 0, g'⟩ (fun r => ∀ c : Dev Cert.QuantXRefIdeal.nD,
          r.2.mem ((c.tc : Thread Cert.QuantXRefIdeal.nD Cert.QuantXRefIdeal.τ).loc Cert.QuantXRefIdeal.main_v0_0) = v0 c
          ∧ r.2.mem ((c.tc : Thread Cert.QuantXRefIdeal.nD Cert.QuantXRefIdeal.τ).loc Cert.QuantXRefIdeal.main_v0_1) = v1 c
          ∧ r.2.mem ((c.tc : Thread Cert.QuantXRefIdeal.nD Cert.QuantXRefIdeal.τ).loc Cert.QuantXRefIdeal.main_v0_2) = v2 c
          ∧ r.2.mem ((c.tc : Thread Cert.QuantXRefIdeal.nD Cert.QuantXRefIdeal.τ).loc Cert.QuantXRefIdeal.main_arg0) = m' ((c.tc : Thread Cert.QuantXRefIdeal.nD Cert.QuantXRefIdeal.τ).loc Cert.QuantXRefIdeal.main_arg0))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)) (v2 : (c : Dev Cert.GateUpIdeal.nD) → Buf (Elt Ideal) ((c.tc : Thread Cert.GateUpIdeal.nD Cert.GateUpIdeal.τ).loc Cert.GateUpIdeal.main_v0_2)) (v3 : (c : Dev Cert.GateUpIdeal.nD) → Buf (Elt Ideal) ((c.tc : Thread Cert.GateUpIdeal.nD Cert.GateUpIdeal.τ).loc Cert.GateUpIdeal.main_v0_3)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_v0_2) = v2 c
          ∧ r.2.mem ((c.tc : Thread Cert.GateUpIdeal.nD Cert.GateUpIdeal.τ).loc Cert.GateUpIdeal.main_v0_3) = v3 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v4) = v0 c
          ∧ r.2.mem ((c.tc : Thread Cert.GateUpRefIdeal.nD Cert.GateUpRefIdeal.τ).loc Cert.GateUpRefIdeal.main_v9) = v1 c
          ∧ r.2.mem ((c.tc : Thread Cert.GateUpRefIdeal.nD Cert.GateUpRefIdeal.τ).loc Cert.GateUpRefIdeal.main_v17) = v2 c
          ∧ r.2.mem ((c.tc : Thread Cert.GateUpRefIdeal.nD Cert.GateUpRefIdeal.τ).loc Cert.GateUpRefIdeal.main_v20) = v3 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)) (v2 : (c : Dev Cert.DownIdeal.nD) → Buf (Elt Ideal) ((c.tc : Thread Cert.DownIdeal.nD Cert.DownIdeal.τ).loc Cert.DownIdeal.main_v0_2)) (v3 : (c : Dev Cert.DownIdeal.nD) → Buf (Elt Ideal) ((c.tc : Thread Cert.DownIdeal.nD Cert.DownIdeal.τ).loc Cert.DownIdeal.main_v0_3)) (v4 : (c : Dev Cert.DownIdeal.nD) → Buf (Elt Ideal) ((c.tc : Thread Cert.DownIdeal.nD Cert.DownIdeal.τ).loc Cert.DownIdeal.main_v0_4)) (v5 : (c : Dev Cert.DownIdeal.nD) → Buf (Elt Ideal) ((c.tc : Thread Cert.DownIdeal.nD Cert.DownIdeal.τ).loc Cert.DownIdeal.main_v0_5)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_v0_2) = v2 c
          ∧ r.2.mem ((c.tc : Thread Cert.DownIdeal.nD Cert.DownIdeal.τ).loc Cert.DownIdeal.main_v0_3) = v3 c
          ∧ r.2.mem ((c.tc : Thread Cert.DownIdeal.nD Cert.DownIdeal.τ).loc Cert.DownIdeal.main_v0_4) = v4 c
          ∧ r.2.mem ((c.tc : Thread Cert.DownIdeal.nD Cert.DownIdeal.τ).loc Cert.DownIdeal.main_v0_5) = v5 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0_0) = v0 c
          ∧ r.2.mem ((c.tc : Thread Cert.DownRefIdeal.nD Cert.DownRefIdeal.τ).loc Cert.DownRefIdeal.main_v0_1) = v1 c
          ∧ r.2.mem ((c.tc : Thread Cert.DownRefIdeal.nD Cert.DownRefIdeal.τ).loc Cert.DownRefIdeal.main_v0_2) = v2 c
          ∧ r.2.mem ((c.tc : Thread Cert.DownRefIdeal.nD Cert.DownRefIdeal.τ).loc Cert.DownRefIdeal.main_v0_3) = v3 c
          ∧ r.2.mem ((c.tc : Thread Cert.DownRefIdeal.nD Cert.DownRefIdeal.τ).loc Cert.DownRefIdeal.main_v0_4) = v4 c
          ∧ r.2.mem ((c.tc : Thread Cert.DownRefIdeal.nD Cert.DownRefIdeal.τ).loc Cert.DownRefIdeal.main_v0_5) = v5 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)
      ∧ m' ((c.tc : Thread Cert.DActRefIdeal.nD Cert.DActRefIdeal.τ).loc Cert.DActRefIdeal.main_arg2) = m ((c.tc : Thread Cert.DActIdeal.nD Cert.DActIdeal.τ).loc Cert.DActIdeal.main_arg2)
      ∧ m' ((c.tc : Thread Cert.DActRefIdeal.nD Cert.DActRefIdeal.τ).loc Cert.DActRefIdeal.main_arg3) = m ((c.tc : Thread Cert.DActIdeal.nD Cert.DActIdeal.τ).loc Cert.DActIdeal.main_arg3)
      ∧ m' ((c.tc : Thread Cert.DActRefIdeal.nD Cert.DActRefIdeal.τ).loc Cert.DActRefIdeal.main_arg4) = m ((c.tc : Thread Cert.DActIdeal.nD Cert.DActIdeal.τ).loc Cert.DActIdeal.main_arg4)) →
    ∃ (v0 : (c : Dev Cert.DActIdeal.nD) → Buf (Elt Ideal) ((c.tc : Thread Cert.DActIdeal.nD Cert.DActIdeal.τ).loc Cert.DActIdeal.main_v0_0)) (v1 : (c : Dev Cert.DActIdeal.nD) → Buf (Elt Ideal) ((c.tc : Thread Cert.DActIdeal.nD Cert.DActIdeal.τ).loc Cert.DActIdeal.main_v0_1)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0_0) = v0 c
          ∧ r.2.mem ((c.tc : Thread Cert.DActIdeal.nD Cert.DActIdeal.τ).loc Cert.DActIdeal.main_v0_1) = v1 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
          ∧ r.2.mem ((c.tc : Thread Cert.DActIdeal.nD Cert.DActIdeal.τ).loc Cert.DActIdeal.main_arg2) = m ((c.tc : Thread Cert.DActIdeal.nD Cert.DActIdeal.τ).loc Cert.DActIdeal.main_arg2)
          ∧ r.2.mem ((c.tc : Thread Cert.DActIdeal.nD Cert.DActIdeal.τ).loc Cert.DActIdeal.main_arg3) = m ((c.tc : Thread Cert.DActIdeal.nD Cert.DActIdeal.τ).loc Cert.DActIdeal.main_arg3)
          ∧ r.2.mem ((c.tc : Thread Cert.DActIdeal.nD Cert.DActIdeal.τ).loc Cert.DActIdeal.main_arg4) = m ((c.tc : Thread Cert.DActIdeal.nD Cert.DActIdeal.τ).loc Cert.DActIdeal.main_arg4))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v19) = v0 c
          ∧ r.2.mem ((c.tc : Thread Cert.DActRefIdeal.nD Cert.DActRefIdeal.τ).loc Cert.DActRefIdeal.main_v22) = v1 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1)
          ∧ r.2.mem ((c.tc : Thread Cert.DActRefIdeal.nD Cert.DActRefIdeal.τ).loc Cert.DActRefIdeal.main_arg2) = m' ((c.tc : Thread Cert.DActRefIdeal.nD Cert.DActRefIdeal.τ).loc Cert.DActRefIdeal.main_arg2)
          ∧ r.2.mem ((c.tc : Thread Cert.DActRefIdeal.nD Cert.DActRefIdeal.τ).loc Cert.DActRefIdeal.main_arg3) = m' ((c.tc : Thread Cert.DActRefIdeal.nD Cert.DActRefIdeal.τ).loc Cert.DActRefIdeal.main_arg3)
          ∧ r.2.mem ((c.tc : Thread Cert.DActRefIdeal.nD Cert.DActRefIdeal.τ).loc Cert.DActRefIdeal.main_arg4) = m' ((c.tc : Thread Cert.DActRefIdeal.nD Cert.DActRefIdeal.τ).loc Cert.DActRefIdeal.main_arg4))

def Claim : Prop :=
  ∃ (hDvGate : Cert.DvGate.Facts) (hDvGateIdeal : Cert.DvGateIdeal.Facts) (hDvGateRefIdeal : Cert.DvGateRefIdeal.Facts) (hDvDown : Cert.DvDown.Facts) (hDvDownIdeal : Cert.DvDownIdeal.Facts) (hDvDownRefIdeal : Cert.DvDownRefIdeal.Facts) (hQuantX : Cert.QuantX.Facts) (hQuantXIdeal : Cert.QuantXIdeal.Facts) (hQuantXRefIdeal : Cert.QuantXRefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hDAct : Cert.DAct.Facts) (hDActIdeal : Cert.DActIdeal.Facts) (hDActRefIdeal : Cert.DActRefIdeal.Facts),
    quiescent_DvGate (hDvGate := hDvGate)
    ∧ quiescent_DvGateIdeal (hDvGateIdeal := hDvGateIdeal)
    ∧ quiescent_DvGateRefIdeal (hDvGateRefIdeal := hDvGateRefIdeal)
    ∧ quiescent_DvDown (hDvDown := hDvDown)
    ∧ quiescent_DvDownIdeal (hDvDownIdeal := hDvDownIdeal)
    ∧ quiescent_DvDownRefIdeal (hDvDownRefIdeal := hDvDownRefIdeal)
    ∧ quiescent_QuantX (hQuantX := hQuantX)
    ∧ quiescent_QuantXIdeal (hQuantXIdeal := hQuantXIdeal)
    ∧ quiescent_QuantXRefIdeal (hQuantXRefIdeal := hQuantXRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_DAct (hDAct := hDAct)
    ∧ quiescent_DActIdeal (hDActIdeal := hDActIdeal)
    ∧ quiescent_DActRefIdeal (hDActRefIdeal := hDActRefIdeal)
    ∧ preserves_DvGate_DvGateIdeal
    ∧ algebraic_DvGateIdeal_DvGateRefIdeal (hDvGateIdeal := hDvGateIdeal) (hDvGateRefIdeal := hDvGateRefIdeal)
    ∧ preserves_DvDown_DvDownIdeal
    ∧ algebraic_DvDownIdeal_DvDownRefIdeal (hDvDownIdeal := hDvDownIdeal) (hDvDownRefIdeal := hDvDownRefIdeal)
    ∧ preserves_QuantX_QuantXIdeal
    ∧ algebraic_QuantXIdeal_QuantXRefIdeal (hQuantXIdeal := hQuantXIdeal) (hQuantXRefIdeal := hQuantXRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_DAct_DActIdeal
    ∧ algebraic_DActIdeal_DActRefIdeal (hDActIdeal := hDActIdeal) (hDActRefIdeal := hDActRefIdeal)
-- ==== DvGate.lean ====
abbrev S6144x3072 : Shape := ⟨2, ![6144, 3072]⟩
abbrev S6144x8192 : Shape := ⟨2, ![6144, 8192]⟩
abbrev S1536x8192 : Shape := ⟨2, ![1536, 8192]⟩
abbrev S3072x8192 : Shape := ⟨2, ![3072, 8192]⟩
abbrev S1x8192 : Shape := ⟨2, ![1, 8192]⟩
abbrev S6144x512 : Shape := ⟨2, ![6144, 512]⟩
abbrev S6144x1024 : Shape := ⟨2, ![6144, 1024]⟩
abbrev S256x1024 : Shape := ⟨2, ![256, 1024]⟩
abbrev S512x1024 : Shape := ⟨2, ![512, 1024]⟩
abbrev S1x1024 : Shape := ⟨2, ![1, 1024]⟩
abbrev S64x1024 : Shape := ⟨2, ![64, 1024]⟩
abbrev S6144x128 : Shape := ⟨2, ![6144, 128]⟩
abbrev S128x1024 : Shape := ⟨2, ![128, 1024]⟩
abbrev S8x1024 : Shape := ⟨2, ![8, 1024]⟩

abbrev nBuf : Space → Nat
  | .hbm => 6
  | .vmem => 12
  | .smem => 0
  | _ => 0

abbrev bufTy : (tb : Table) → Fin (tcTables nBuf tb) → BufTy
  | .hbm, ⟨0, _⟩ => ⟨S6144x3072, .bf16⟩
  | .hbm, ⟨1, _⟩ => ⟨S6144x8192, .bf16⟩
  | .hbm, ⟨2, _⟩ => ⟨S1536x8192, .i8⟩
  | .hbm, ⟨3, _⟩ => ⟨S3072x8192, .f32⟩
  | .hbm, ⟨4, _⟩ => ⟨S1x8192, .f32⟩
  | .hbm, ⟨5, _⟩ => ⟨S3072x8192, .f32⟩
  | .local _ .vmem, ⟨0, _⟩ => ⟨S6144x512, .bf16⟩
  | .local _ .vmem, ⟨1, _⟩ => ⟨S6144x512, .bf16⟩
  | .local _ .vmem, ⟨2, _⟩ => ⟨S6144x1024, .bf16⟩
  | .local _ .vmem, ⟨3, _⟩ => ⟨S6144x1024, .bf16⟩
  | .local _ .vmem, ⟨4, _⟩ => ⟨S256x1024, .i8⟩
  | .local _ .vmem, ⟨5, _⟩ => ⟨S256x1024, .i8⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S6144x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S6144x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S6144x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DvGateRefIdeal.lean ====
abbrev S6144x3072 : Shape := ⟨2, ![6144, 3072]⟩
abbrev S6144x8192 : Shape := ⟨2, ![6144, 8192]⟩
abbrev S1536x8192 : Shape := ⟨2, ![1536, 8192]⟩
abbrev S3072x8192 : Shape := ⟨2, ![3072, 8192]⟩
abbrev S1x8192 : Shape := ⟨2, ![1, 8192]⟩
abbrev S_ : Shape := ⟨0, ![]⟩
abbrev S1536x1x8192 : Shape := ⟨3, ![1536, 1, 8192]⟩
abbrev S1536x2x8192 : Shape := ⟨3, ![1536, 2, 8192]⟩

abbrev nBuf : Space → Nat
  | .hbm => 93
  | .vmem => 0
  | .smem => 0
  | _ => 0

abbrev bufTy : (tb : Table) → Fin (tcTables nBuf tb) → BufTy
  | .hbm, ⟨0, _⟩ => ⟨S6144x3072, .bf16⟩
  | .hbm, ⟨1, _⟩ => ⟨S6144x8192, .bf16⟩
  | .hbm, ⟨2, _⟩ => ⟨S1536x8192, .i8⟩
  | .hbm, ⟨3, _⟩ => ⟨S3072x8192, .f32⟩
  | .hbm, ⟨4, _⟩ => ⟨S1x8192, .f32⟩
  | .hbm, ⟨5, _⟩ => ⟨S1536x8192, .i32⟩
  | .hbm, ⟨6, _⟩ => ⟨S_, .i32⟩
  | .hbm, ⟨7, _⟩ => ⟨S1536x8192, .i32⟩
  | .hbm, ⟨8, _⟩ => ⟨S1536x8192, .i32⟩
  | .hbm, ⟨9, _⟩ => ⟨S_, .i32⟩
  | .hbm, ⟨10, _⟩ => ⟨S1536x8192, .i32⟩
  | .hbm, ⟨11, _⟩ => ⟨S1536x8192, .i32⟩
  | .hbm, ⟨12, _⟩ => ⟨S_, .i32⟩
  | .hbm, ⟨13, _⟩ => ⟨S1536x8192, .i32⟩
  | .hbm, ⟨14, _⟩ => ⟨S1536x8192, .i1⟩
  | .hbm, ⟨15, _⟩ => ⟨S_, .i32⟩
  | .hbm, ⟨16, _⟩ => ⟨S1536x8192, .i32⟩
  | .hbm, ⟨17, _⟩ => ⟨S1536x8192, .i32⟩
  | .hbm, ⟨18, _⟩ => ⟨S1536x8192, .i32⟩
  | .hbm, ⟨19, _⟩ => ⟨S_, .i32⟩
  | .hbm, ⟨20, _⟩ => ⟨S1536x8192, .i32⟩
  | .hbm, ⟨21, _⟩ => ⟨S1536x8192, .i1⟩
  | .hbm, ⟨22, _⟩ => ⟨S_, .i32⟩
  | .hbm, ⟨23, _⟩ => ⟨S1536x8192, .i32⟩
  | .hbm, ⟨24, _⟩ => ⟨S1536x8192, .i32⟩
  | .hbm, ⟨25, _⟩ => ⟨S1536x8192, .i32⟩
  | .hbm, ⟨26, _⟩ => ⟨S1536x1x8192, .i32⟩
  | .hbm, ⟨27, _⟩ => ⟨S1536x1x8192, .i32⟩
  | .hbm, ⟨28, _⟩ => ⟨S1536x2x8192, .i32⟩
  | .hbm, ⟨29, _⟩ => ⟨S3072x8192, .i32⟩
  | .hbm, ⟨30, _⟩ => ⟨S3072x8192, .f32⟩
  | .hbm, ⟨31, _⟩ => ⟨S3072x8192, .f32⟩
  | .hbm, ⟨32, _⟩ => ⟨S_, .f32⟩
  | .hbm, ⟨33, _⟩ => ⟨S3072x8192, .f32⟩
  | .hbm, ⟨34, _⟩ => ⟨S3072x8192, .f32⟩
  | .hbm, ⟨35, _⟩ => ⟨S_, .f32⟩
  | .hbm, ⟨36, _⟩ => ⟨S3072x8192, .f32⟩
  | .hbm, ⟨37, _⟩ => ⟨S3072x8192, .f32⟩
  | .hbm, ⟨38, _⟩ => ⟨S_, .f32⟩
  | .hbm, ⟨39, _⟩ => ⟨S3072x8192, .f32⟩
  | .hbm, ⟨40, _⟩ => ⟨S3072x8192, .f32⟩
  | .hbm, ⟨41, _⟩ => ⟨S_, .f32⟩
  | .hbm, ⟨42, _⟩ => ⟨S3072x8192, .f32⟩
  | .hbm, ⟨43, _⟩ => ⟨S3072x8192, .f32⟩
  | .hbm, ⟨44, _⟩ => ⟨S3072x8192, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S3072x8192, .f32⟩
  | .hbm, ⟨49, _⟩ => ⟨S3072x8192, .f32⟩
  | .hbm, ⟨50, _⟩ => ⟨S_, .f32⟩
  | .hbm, ⟨51, _⟩ => ⟨S3072x8192, .f32⟩
  | .hbm, ⟨52, _⟩ => ⟨S3072x8192, .f32⟩
  | .hbm, ⟨53, _⟩ => ⟨S3072x8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S3072x8192, .f32⟩
  | .hbm, ⟨58, _⟩ => ⟨S3072x8192, .f32⟩
  | .hbm, ⟨59, _⟩ => ⟨S_, .f32⟩
  | .hbm, ⟨60, _⟩ => ⟨S3072x8192, .f32⟩
  | .hbm, ⟨61, _⟩ => ⟨S3072x8192, .f32⟩
  | .hbm, ⟨62, _⟩ => ⟨S3072x8192, .bf16⟩
  | .hbm, ⟨63, _⟩ => ⟨S_, .f32⟩
  | .hbm, ⟨64, _⟩ => ⟨S3072x8192, .f32⟩
  | .hbm, ⟨65, _⟩ => ⟨S3072x8192, .i1⟩
  | .hbm, ⟨66, _⟩ => ⟨S_, .f32⟩
  | .hbm, ⟨67, _⟩ => ⟨S3072x8192, .f32⟩
  | .hbm, ⟨68, _⟩ => ⟨S3072x8192, .i1⟩
  | .hbm, ⟨69, _⟩ => ⟨S3072x8192, .i1⟩
  | .hbm, ⟨70, _⟩ => ⟨S_, .f32⟩
  | .hbm, ⟨71, _⟩ => ⟨S3072x8192, .f32⟩
  | .hbm, ⟨72, _⟩ => ⟨S3072x8192, .i1⟩
  | .hbm, ⟨73, _⟩ => ⟨S3072x8192, .i1⟩
  | .hbm, ⟨74, _⟩ => ⟨S_, .f32⟩
  | .hbm, ⟨75, _⟩ => ⟨S3072x8192, .f32⟩
  | .hbm, ⟨76, _⟩ => ⟨S3072x8192, .i1⟩
  | .hbm, ⟨77, _⟩ => ⟨S3072x8192, .i1⟩
  | .hbm, ⟨78, _⟩ => ⟨S_, .f32⟩
  | .hbm, ⟨79, _⟩ => ⟨S3072x8192, .f32⟩
  | .hbm, ⟨80, _⟩ => ⟨S3072x8192, .f32⟩
  | .hbm, ⟨81, _⟩ => ⟨S_, .f32⟩
  | .hbm, ⟨82, _⟩ => ⟨S3072x8192, .f32⟩
  | .hbm, ⟨83, _⟩ => ⟨S3072x8192, .f32⟩
  | .hbm, ⟨84, _⟩ => ⟨S3072x8192, .f32⟩
  | .hbm, ⟨85, _⟩ => ⟨S_, .f32⟩
  | .hbm, ⟨86, _⟩ => ⟨S_, .f32⟩
  | .hbm, ⟨87, _⟩ => ⟨S3072x8192, .f32⟩
  | .hbm, ⟨88, _⟩ => ⟨S3072x8192, .f32⟩
  | .hbm, ⟨89, _⟩ => ⟨S3072x8192, .f32⟩
  | .hbm, ⟨90, _⟩ => ⟨S3072x8192, .f32⟩
  | .hbm, ⟨91, _⟩ => ⟨S3072x8192, .f32⟩
  | .hbm, ⟨92, _⟩ => ⟨S3072x8192, .f32⟩
  | _, _ => ⟨S6144x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_cst_9 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v30 : Ref sig .tc := ⟨.hbm, 52, rfl⟩
abbrev main_v31 : Ref sig .tc := ⟨.hbm, 53, rfl⟩
abbrev main_cst_10 : Ref sig .tc := ⟨.hbm, 54, rfl⟩
abbrev main_cst_11 : Ref sig .tc := ⟨.hbm, 55, rfl⟩
abbrev main_call3_v0 : Ref sig .tc := ⟨.hbm, 56, rfl⟩
abbrev main_call3_v1 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_v32 : Ref sig .tc := ⟨.hbm, 61, rfl⟩
abbrev main_v33 : Ref sig .tc := ⟨.hbm, 62, rfl⟩
abbrev main_cst_12 : Ref sig .tc := ⟨.hbm, 63, rfl⟩
abbrev main_v34 : Ref sig .tc := ⟨.hbm, 64, rfl⟩
abbrev main_v35 : Ref sig .tc := ⟨.hbm, 65, rfl⟩
abbrev main_cst_13 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_14 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_15 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_16 : Ref sig .tc := ⟨.hbm, 78, rfl⟩
abbrev main_v45 : Ref sig .tc := ⟨.hbm, 79, rfl⟩
abbrev main_v46 : Ref sig .tc := ⟨.hbm, 80, rfl⟩
abbrev main_cst_17 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_call4_v0 : Ref sig .tc := ⟨.hbm, 86, rfl⟩
abbrev main_call4_v1 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩

abbrev nD : Nat := 1
abbrev τ : Topo := Topo.v7x

variable {F : FTy → Type} [FloatOps F]
-- ==== DvDown.lean ====
abbrev S6144x8192 : Shape := ⟨2, ![6144, 8192]⟩
abbrev S6144x3072 : Shape := ⟨2, ![6144, 3072]⟩
abbrev S4096x3072 : Shape := ⟨2, ![4096, 3072]⟩
abbrev S8192x3072 : Shape := ⟨2, ![8192, 3072]⟩
abbrev S1x3072 : Shape := ⟨2, ![1, 3072]⟩
abbrev S6144x512 : Shape := ⟨2, ![6144, 512]⟩
abbrev S6144x1024 : Shape := ⟨2, ![6144, 1024]⟩
abbrev S256x1024 : Shape := ⟨2, ![256, 1024]⟩
abbrev S512x1024 : Shape := ⟨2, ![512, 1024]⟩
abbrev S1x1024 : Shape := ⟨2, ![1, 1024]⟩
abbrev S64x1024 : Shape := ⟨2, ![64, 1024]⟩
abbrev S6144x128 : Shape := ⟨2, ![6144, 128]⟩
abbrev S128x1024 : Shape := ⟨2, ![128, 1024]⟩
abbrev S8x1024 : Shape := ⟨2, ![8, 1024]⟩

abbrev nBuf : Space → Nat
  | .hbm => 6
  | .vmem => 12
  | .smem => 0
  | _ => 0

abbrev bufTy : (tb : Table) → Fin (tcTables nBuf tb) → BufTy
  | .hbm, ⟨0, _⟩ => ⟨S6144x8192, .bf16⟩
  | .hbm, ⟨1, _⟩ => ⟨S6144x3072, .bf16⟩
  | .hbm, ⟨2, _⟩ => ⟨S4096x3072, .i8⟩
  | .hbm, ⟨3, _⟩ => ⟨S8192x3072, .f32⟩
  | .hbm, ⟨4, _⟩ => ⟨S1x3072, .f32⟩
  | .hbm, ⟨5, _⟩ => ⟨S8192x3072, .f32⟩
  | .local _ .vmem, ⟨0, _⟩ => ⟨S6144x512, .bf16⟩
  | .local _ .vmem, ⟨1, _⟩ => ⟨S6144x512, .bf16⟩
  | .local _ .vmem, ⟨2, _⟩ => ⟨S6144x1024, .bf16⟩
  | .local _ .vmem, ⟨3, _⟩ => ⟨S6144x1024, .bf16⟩
  | .local _ .vmem, ⟨4, _⟩ => ⟨S256x1024, .i8⟩
  | .local _ .vmem, ⟨5, _⟩ => ⟨S256x1024, .i8⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S6144x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S6144x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S6144x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DvDownRefIdeal.lean ====
abbrev S6144x8192 : Shape := ⟨2, ![6144, 8192]⟩
abbrev S6144x3072 : Shape := ⟨2, ![6144, 3072]⟩
abbrev S4096x3072 : Shape := ⟨2, ![4096, 3072]⟩
abbrev S8192x3072 : Shape := ⟨2, ![8192, 3072]⟩
abbrev S1x3072 : Shape := ⟨2, ![1, 3072]⟩
abbrev S_ : Shape := ⟨0, ![]⟩
abbrev S4096x1x3072 : Shape := ⟨3, ![4096, 1, 3072]⟩
abbrev S4096x2x3072 : Shape := ⟨3, ![4096, 2, 3072]⟩

abbrev nBuf : Space → Nat
  | .hbm => 93
  | .vmem => 0
  | .smem => 0
  | _ => 0

abbrev bufTy : (tb : Table) → Fin (tcTables nBuf tb) → BufTy
  | .hbm, ⟨0, _⟩ => ⟨S6144x8192, .bf16⟩
  | .hbm, ⟨1, _⟩ => ⟨S6144x3072, .bf16⟩
  | .hbm, ⟨2, _⟩ => ⟨S4096x3072, .i8⟩
  | .hbm, ⟨3, _⟩ => ⟨S8192x3072, .f32⟩
  | .hbm, ⟨4, _⟩ => ⟨S1x3072, .f32⟩
  | .hbm, ⟨5, _⟩ => ⟨S4096x3072, .i32⟩
  | .hbm, ⟨6, _⟩ => ⟨S_, .i32⟩
  | .hbm, ⟨7, _⟩ => ⟨S4096x3072, .i32⟩
  | .hbm, ⟨8, _⟩ => ⟨S4096x3072, .i32⟩
  | .hbm, ⟨9, _⟩ => ⟨S_, .i32⟩
  | .hbm, ⟨10, _⟩ => ⟨S4096x3072, .i32⟩
  | .hbm, ⟨11, _⟩ => ⟨S4096x3072, .i32⟩
  | .hbm, ⟨12, _⟩ => ⟨S_, .i32⟩
  | .hbm, ⟨13, _⟩ => ⟨S4096x3072, .i32⟩
  | .hbm, ⟨14, _⟩ => ⟨S4096x3072, .i1⟩
  | .hbm, ⟨15, _⟩ => ⟨S_, .i32⟩
  | .hbm, ⟨16, _⟩ => ⟨S4096x3072, .i32⟩
  | .hbm, ⟨17, _⟩ => ⟨S4096x3072, .i32⟩
  | .hbm, ⟨18, _⟩ => ⟨S4096x3072, .i32⟩
  | .hbm, ⟨19, _⟩ => ⟨S_, .i32⟩
  | .hbm, ⟨20, _⟩ => ⟨S4096x3072, .i32⟩
  | .hbm, ⟨21, _⟩ => ⟨S4096x3072, .i1⟩
  | .hbm, ⟨22, _⟩ => ⟨S_, .i32⟩
  | .hbm, ⟨23, _⟩ => ⟨S4096x3072, .i32⟩
  | .hbm, ⟨24, _⟩ => ⟨S4096x3072, .i32⟩
  | .hbm, ⟨25, _⟩ => ⟨S4096x3072, .i32⟩
  | .hbm, ⟨26, _⟩ => ⟨S4096x1x3072, .i32⟩
  | .hbm, ⟨27, _⟩ => ⟨S4096x1x3072, .i32⟩
  | .hbm, ⟨28, _⟩ => ⟨S4096x2x3072, .i32⟩
  | .hbm, ⟨29, _⟩ => ⟨S8192x3072, .i32⟩
  | .hbm, ⟨30, _⟩ => ⟨S8192x3072, .f32⟩
  | .hbm, ⟨31, _⟩ => ⟨S8192x3072, .f32⟩
  | .hbm, ⟨32, _⟩ => ⟨S_, .f32⟩
  | .hbm, ⟨33, _⟩ => ⟨S8192x3072, .f32⟩
  | .hbm, ⟨34, _⟩ => ⟨S8192x3072, .f32⟩
  | .hbm, ⟨35, _⟩ => ⟨S_, .f32⟩
  | .hbm, ⟨36, _⟩ => ⟨S8192x3072, .f32⟩
  | .hbm, ⟨37, _⟩ => ⟨S8192x3072, .f32⟩
  | .hbm, ⟨38, _⟩ => ⟨S_, .f32⟩
  | .hbm, ⟨39, _⟩ => ⟨S8192x3072, .f32⟩
  | .hbm, ⟨40, _⟩ => ⟨S8192x3072, .f32⟩
  | .hbm, ⟨41, _⟩ => ⟨S_, .f32⟩
  | .hbm, ⟨42, _⟩ => ⟨S8192x3072, .f32⟩
  | .hbm, ⟨43, _⟩ => ⟨S8192x3072, .f32⟩
  | .hbm, ⟨44, _⟩ => ⟨S8192x3072, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192x3072, .f32⟩
  | .hbm, ⟨49, _⟩ => ⟨S8192x3072, .f32⟩
  | .hbm, ⟨50, _⟩ => ⟨S_, .f32⟩
  | .hbm, ⟨51, _⟩ => ⟨S8192x3072, .f32⟩
  | .hbm, ⟨52, _⟩ => ⟨S8192x3072, .f32⟩
  | .hbm, ⟨53, _⟩ => ⟨S8192x3072, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8192x3072, .f32⟩
  | .hbm, ⟨58, _⟩ => ⟨S8192x3072, .f32⟩
  | .hbm, ⟨59, _⟩ => ⟨S_, .f32⟩
  | .hbm, ⟨60, _⟩ => ⟨S8192x3072, .f32⟩
  | .hbm, ⟨61, _⟩ => ⟨S8192x3072, .f32⟩
  | .hbm, ⟨62, _⟩ => ⟨S8192x3072, .bf16⟩
  | .hbm, ⟨63, _⟩ => ⟨S_, .f32⟩
  | .hbm, ⟨64, _⟩ => ⟨S8192x3072, .f32⟩
  | .hbm, ⟨65, _⟩ => ⟨S8192x3072, .i1⟩
  | .hbm, ⟨66, _⟩ => ⟨S_, .f32⟩
  | .hbm, ⟨67, _⟩ => ⟨S8192x3072, .f32⟩
  | .hbm, ⟨68, _⟩ => ⟨S8192x3072, .i1⟩
  | .hbm, ⟨69, _⟩ => ⟨S8192x3072, .i1⟩
  | .hbm, ⟨70, _⟩ => ⟨S_, .f32⟩
  | .hbm, ⟨71, _⟩ => ⟨S8192x3072, .f32⟩
  | .hbm, ⟨72, _⟩ => ⟨S8192x3072, .i1⟩
  | .hbm, ⟨73, _⟩ => ⟨S8192x3072, .i1⟩
  | .hbm, ⟨74, _⟩ => ⟨S_, .f32⟩
  | .hbm, ⟨75, _⟩ => ⟨S8192x3072, .f32⟩
  | .hbm, ⟨76, _⟩ => ⟨S8192x3072, .i1⟩
  | .hbm, ⟨77, _⟩ => ⟨S8192x3072, .i1⟩
  | .hbm, ⟨78, _⟩ => ⟨S_, .f32⟩
  | .hbm, ⟨79, _⟩ => ⟨S8192x3072, .f32⟩
  | .hbm, ⟨80, _⟩ => ⟨S8192x3072, .f32⟩
  | .hbm, ⟨81, _⟩ => ⟨S_, .f32⟩
  | .hbm, ⟨82, _⟩ => ⟨S8192x3072, .f32⟩
  | .hbm, ⟨83, _⟩ => ⟨S8192x3072, .f32⟩
  | .hbm, ⟨84, _⟩ => ⟨S8192x3072, .f32⟩
  | .hbm, ⟨85, _⟩ => ⟨S_, .f32⟩
  | .hbm, ⟨86, _⟩ => ⟨S_, .f32⟩
  | .hbm, ⟨87, _⟩ => ⟨S8192x3072, .f32⟩
  | .hbm, ⟨88, _⟩ => ⟨S8192x3072, .f32⟩
  | .hbm, ⟨89, _⟩ => ⟨S8192x3072, .f32⟩
  | .hbm, ⟨90, _⟩ => ⟨S8192x3072, .f32⟩
  | .hbm, ⟨91, _⟩ => ⟨S8192x3072, .f32⟩
  | .hbm, ⟨92, _⟩ => ⟨S8192x3072, .f32⟩
  | _, _ => ⟨S6144x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_cst_9 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v30 : Ref sig .tc := ⟨.hbm, 52, rfl⟩
abbrev main_v31 : Ref sig .tc := ⟨.hbm, 53, rfl⟩
abbrev main_cst_10 : Ref sig .tc := ⟨.hbm, 54, rfl⟩
abbrev main_cst_11 : Ref sig .tc := ⟨.hbm, 55, rfl⟩
abbrev main_call3_v0 : Ref sig .tc := ⟨.hbm, 56, rfl⟩
abbrev main_call3_v1 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_v32 : Ref sig .tc := ⟨.hbm, 61, rfl⟩
abbrev main_v33 : Ref sig .tc := ⟨.hbm, 62, rfl⟩
abbrev main_cst_12 : Ref sig .tc := ⟨.hbm, 63, rfl⟩
abbrev main_v34 : Ref sig .tc := ⟨.hbm, 64, rfl⟩
abbrev main_v35 : Ref sig .tc := ⟨.hbm, 65, rfl⟩
abbrev main_cst_13 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_14 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_15 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_16 : Ref sig .tc := ⟨.hbm, 78, rfl⟩
abbrev main_v45 : Ref sig .tc := ⟨.hbm, 79, rfl⟩
abbrev main_v46 : Ref sig .tc := ⟨.hbm, 80, rfl⟩
abbrev main_cst_17 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_call4_v0 : Ref sig .tc := ⟨.hbm, 86, rfl⟩
abbrev main_call4_v1 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩

abbrev nD : Nat := 1
abbrev τ : Topo := Topo.v7x

variable {F : FTy → Type} [FloatOps F]
-- ==== QuantX.lean ====
abbrev S6144x3072 : Shape := ⟨2, ![6144, 3072]⟩
abbrev S6144x1 : Shape := ⟨2, ![6144, 1]⟩
abbrev S256x3072 : Shape := ⟨2, ![256, 3072]⟩
abbrev S256x1 : Shape := ⟨2, ![256, 1]⟩
abbrev S256 : Shape := ⟨1, ![256]⟩

abbrev nBuf : Space → Nat
  | .hbm => 4
  | .vmem => 8
  | .smem => 0
  | _ => 0

abbrev bufTy : (tb : Table) → Fin (tcTables nBuf tb) → BufTy
  | .hbm, ⟨0, _⟩ => ⟨S6144x3072, .bf16⟩
  | .hbm, ⟨1, _⟩ => ⟨S6144x3072, .i8⟩
  | .hbm, ⟨2, _⟩ => ⟨S6144x3072, .bf16⟩
  | .hbm, ⟨3, _⟩ => ⟨S6144x1, .f32⟩
  | .local _ .vmem, ⟨0, _⟩ => ⟨S256x3072, .bf16⟩
  | .local _ .vmem, ⟨1, _⟩ => ⟨S256x3072, .bf16⟩
  | .local _ .vmem, ⟨2, _⟩ => ⟨S256x3072, .i8⟩
  | .local _ .vmem, ⟨3, _⟩ => ⟨S256x3072, .i8⟩
  | .local _ .vmem, ⟨4, _⟩ => ⟨S256x3072, .bf16⟩
  | .local _ .vmem, ⟨5, _⟩ => ⟨S256x3072, .bf16⟩
  | .local _ .vmem, ⟨6, _⟩ => ⟨S256x1, .f32⟩
  | .local _ .vmem, ⟨7, _⟩ => ⟨S256x1, .f32⟩
  | _, _ => ⟨S6144x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QuantXRefIdeal.lean ====
abbrev S6144x3072 : Shape := ⟨2, ![6144, 3072]⟩
abbrev S6144x1 : Shape := ⟨2, ![6144, 1]⟩
abbrev S6144 : Shape := ⟨1, ![6144]⟩

abbrev nBuf : Space → Nat
  | .hbm => 4
  | .vmem => 4
  | .smem => 0
  | _ => 0

abbrev bufTy : (tb : Table) → Fin (tcTables nBuf tb) → BufTy
  | .hbm, ⟨0, _⟩ => ⟨S6144x3072, .bf16⟩
  | .hbm, ⟨1, _⟩ => ⟨S6144x3072, .i8⟩
  | .hbm, ⟨2, _⟩ => ⟨S6144x3072, .bf16⟩
  | .hbm, ⟨3, _⟩ => ⟨S6144x1, .f32⟩
  | .local _ .vmem, ⟨0, _⟩ => ⟨S6144x3072, .bf16⟩
  | .local _ .vmem, ⟨1, _⟩ => ⟨S6144x3072, .i8⟩
  | .local _ .vmem, ⟨2, _⟩ => ⟨S6144x3072, .bf16⟩
  | .local _ .vmem, ⟨3, _⟩ => ⟨S6144x1, .f32⟩
  | _, _ => ⟨S6144x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S6144x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x3072 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== GateUp.lean ====
abbrev S6144x3072 : Shape := ⟨2, ![6144, 3072]⟩
abbrev S6144x1 : Shape := ⟨2, ![6144, 1]⟩
abbrev S3072x8192 : Shape := ⟨2, ![3072, 8192]⟩
abbrev S1x8192 : Shape := ⟨2, ![1, 8192]⟩
abbrev S6144x8192 : Shape := ⟨2, ![6144, 8192]⟩
abbrev S6144x128 : Shape := ⟨2, ![6144, 128]⟩
abbrev S512x3072 : Shape := ⟨2, ![512, 3072]⟩
abbrev S512x1 : Shape := ⟨2, ![512, 1]⟩
abbrev S3072x1024 : Shape := ⟨2, ![3072, 1024]⟩
abbrev S1x1024 : Shape := ⟨2, ![1, 1024]⟩
abbrev S512x1024 : Shape := ⟨2, ![512, 1024]⟩
abbrev S256x3072 : Shape := ⟨2, ![256, 3072]⟩
abbrev S256x1 : Shape := ⟨2, ![256, 1]⟩
abbrev S256x1024 : Shape := ⟨2, ![256, 1024]⟩
abbrev S256x128 : Shape := ⟨2, ![256, 128]⟩

abbrev nBuf : Space → Nat
  | .hbm => 10
  | .vmem => 19
  | .smem => 0
  | _ => 0

abbrev bufTy : (tb : Table) → Fin (tcTables nBuf tb) → BufTy
  | .hbm, ⟨0, _⟩ => ⟨S6144x3072, .bf16⟩
  | .hbm, ⟨1, _⟩ => ⟨S6144x1, .f32⟩
  | .hbm, ⟨2, _⟩ => ⟨S3072x8192, .bf16⟩
  | .hbm, ⟨3, _⟩ => ⟨S3072x8192, .bf16⟩
  | .hbm, ⟨4, _⟩ => ⟨S1x8192, .f32⟩
  | .hbm, ⟨5, _⟩ => ⟨S1x8192, .f32⟩
  | .hbm, ⟨6, _⟩ => ⟨S6144x8192, .f32⟩
  | .hbm, ⟨7, _⟩ => ⟨S6144x8192, .f32⟩
  | .hbm, ⟨8, _⟩ => ⟨S6144x8192, .f32⟩
  | .hbm, ⟨9, _⟩ => ⟨S6144x128, .f32⟩
  | .local _ .vmem, ⟨0, _⟩ => ⟨S512x3072, .bf16⟩
  | .local _ .vmem, ⟨1, _⟩ => ⟨S512x3072, .bf16⟩
  | .local _ .vmem, ⟨2, _⟩ => ⟨S512x1, .f32⟩
  | .local _ .vmem, ⟨3, _⟩ => ⟨S512x1, .f32⟩
  | .local _ .vmem, ⟨4, _⟩ => ⟨S3072x1024, .bf16⟩
  | .local _ .vmem, ⟨5, _⟩ => ⟨S3072x1024, .bf16⟩
  | .local _ .vmem, ⟨6, _⟩ => ⟨S3072x1024, .bf16⟩
  | .local _ .vmem, ⟨7, _⟩ => ⟨S3072x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S6144x128, .f32⟩
  | _, _ => ⟨S6144x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨2, ![8, 12], ![false, false]⟩

def k0_mult1 (i : grid0.Coords) : BitVec 32 :=
  let arg1 : BitVec 32 := BitVec.ofNat 32 (i 1).val
  let c512_i32 : BitVec 32 := 512#32
  let v38 : BitVec 32 := Scalar.muli arg1 c512_i32
  let c0_i32 : BitVec 32 := 0#32
  let v39 : BitVec 32 := Scalar.addi v38 c0_i32
  v39
def k0_off1 (i : grid0.Coords) (c0_i32 : BitVec 32) : Fin 2 → Nat :=
  let arg1 : BitVec 32 := BitVec.ofNat 32 (i 1).val
  let c512_i32 : BitVec 32 := 512#32
  let v38 : BitVec 32 := Scalar.muli arg1 c512_i32
  let v39 : BitVec 32 := Scalar.addi v38 c0_i32
  let v40 : BitVec 32 := v39
  let v42 : Index := Scalar.indexCast v40
  let c0_19 : Index := 0#32
  ![v42.toNat, 0]
def k0_mult2 (i : grid0.Coords) : BitVec 32 :=
  let arg1 : BitVec 32 := BitVec.ofNat 32 (i 1).val
  let c512_i32_36 : BitVec 32 := 512#32
  let v85 : BitVec 32 := Scalar.muli arg1 c512_i32_36
  let c256_i32 : BitVec 32 := 256#32
  let v86 : BitVec 32 := Scalar.addi v85 c256_i32
  v86
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3072x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3072x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S6144x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== GateUpRefIdeal.lean ====
abbrev S6144x3072 : Shape := ⟨2, ![6144, 3072]⟩
abbrev S6144x1 : Shape := ⟨2, ![6144, 1]⟩
abbrev S3072x8192 : Shape := ⟨2, ![3072, 8192]⟩
abbrev S1x8192 : Shape := ⟨2, ![1, 8192]⟩
abbrev S6144x8192 : Shape := ⟨2, ![6144, 8192]⟩
abbrev S_ : Shape := ⟨0, ![]⟩
abbrev S6144x64x128 : Shape := ⟨3, ![6144, 64, 128]⟩
abbrev S6144x128 : Shape := ⟨2, ![6144, 128]⟩

abbrev nBuf : Space → Nat
  | .hbm => 30
  | .vmem => 0
  | .smem => 0
  | _ => 0

abbrev bufTy : (tb : Table) → Fin (tcTables nBuf tb) → BufTy
  | .hbm, ⟨0, _⟩ => ⟨S6144x3072, .bf16⟩
  | .hbm, ⟨1, _⟩ => ⟨S6144x1, .f32⟩
  | .hbm, ⟨2, _⟩ => ⟨S3072x8192, .bf16⟩
  | .hbm, ⟨3, _⟩ => ⟨S3072x8192, .bf16⟩
  | .hbm, ⟨4, _⟩ => ⟨S1x8192, .f32⟩
  | .hbm, ⟨5, _⟩ => ⟨S1x8192, .f32⟩
  | .hbm, ⟨6, _⟩ => ⟨S6144x8192, .f32⟩
  | .hbm, ⟨7, _⟩ => ⟨S6144x8192, .f32⟩
  | .hbm, ⟨8, _⟩ => ⟨S6144x8192, .f32⟩
  | .hbm, ⟨9, _⟩ => ⟨S6144x8192, .f32⟩
  | .hbm, ⟨10, _⟩ => ⟨S6144x8192, .f32⟩
  | .hbm, ⟨11, _⟩ => ⟨S6144x8192, .f32⟩
  | .hbm, ⟨12, _⟩ => ⟨S6144x8192, .f32⟩
  | .hbm, ⟨13, _⟩ => ⟨S6144x8192, .f32⟩
  | .hbm, ⟨14, _⟩ => ⟨S6144x8192, .f32⟩
  | .hbm, ⟨15, _⟩ => ⟨S6144x8192, .f32⟩
  | .hbm, ⟨16, _⟩ => ⟨S6144x8192, .f32⟩
  | .hbm, ⟨17, _⟩ => ⟨S6144x8192, .f32⟩
  | .hbm, ⟨18, _⟩ => ⟨S_, .f32⟩
  | .hbm, ⟨19, _⟩ => ⟨S6144x8192, .f32⟩
  | .hbm, ⟨20, _⟩ => ⟨S6144x8192, .f32⟩
  | .hbm, ⟨21, _⟩ => ⟨S_, .f32⟩
  | .hbm, ⟨22, _⟩ => ⟨S6144x8192, .f32⟩
  | .hbm, ⟨23, _⟩ => ⟨S6144x8192, .f32⟩
  | .hbm, ⟨24, _⟩ => ⟨S6144x8192, .f32⟩
  | .hbm, ⟨25, _⟩ => ⟨S6144x8192, .f32⟩
  | .hbm, ⟨26, _⟩ => ⟨S6144x8192, .f32⟩
  | .hbm, ⟨27, _⟩ => ⟨S6144x64x128, .f32⟩
  | .hbm, ⟨28, _⟩ => ⟨S_, .f32⟩
  | .hbm, ⟨29, _⟩ => ⟨S6144x128, .f32⟩
  | _, _ => ⟨S6144x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Down.lean ====
abbrev S6144x8192 : Shape := ⟨2, ![6144, 8192]⟩
abbrev S6144x128 : Shape := ⟨2, ![6144, 128]⟩
abbrev S8192x3072 : Shape := ⟨2, ![8192, 3072]⟩
abbrev S1x3072 : Shape := ⟨2, ![1, 3072]⟩
abbrev S6144x3072 : Shape := ⟨2, ![6144, 3072]⟩
abbrev S6144x1 : Shape := ⟨2, ![6144, 1]⟩
abbrev S512x1024 : Shape := ⟨2, ![512, 1024]⟩
abbrev S512x128 : Shape := ⟨2, ![512, 128]⟩
abbrev S1024x3072 : Shape := ⟨2, ![1024, 3072]⟩
abbrev S512x3072 : Shape := ⟨2, ![512, 3072]⟩
abbrev S512x1 : Shape := ⟨2, ![512, 1]⟩
abbrev S512 : Shape := ⟨1, ![512]⟩
abbrev S256x1 : Shape := ⟨2, ![256, 1]⟩
abbrev S256x1024 : Shape := ⟨2, ![256, 1024]⟩
abbrev S256x3072 : Shape := ⟨2, ![256, 3072]⟩
abbrev S256 : Shape := ⟨1, ![256]⟩

abbrev nBuf : Space → Nat
  | .hbm => 12
  | .vmem => 24
  | .smem => 0
  | _ => 0

abbrev bufTy : (tb : Table) → Fin (tcTables nBuf tb) → BufTy
  | .hbm, ⟨0, _⟩ => ⟨S6144x8192, .f32⟩
  | .hbm, ⟨1, _⟩ => ⟨S6144x128, .f32⟩
  | .hbm, ⟨2, _⟩ => ⟨S8192x3072, .bf16⟩
  | .hbm, ⟨3, _⟩ => ⟨S1x3072, .f32⟩
  | .hbm, ⟨4, _⟩ => ⟨S6144x3072, .bf16⟩
  | .hbm, ⟨5, _⟩ => ⟨S6144x3072, .bf16⟩
  | .hbm, ⟨6, _⟩ => ⟨S6144x8192, .i8⟩
  | .hbm, ⟨7, _⟩ => ⟨S6144x8192, .bf16⟩
  | .hbm, ⟨8, _⟩ => ⟨S6144x1, .f32⟩
  | .hbm, ⟨9, _⟩ => ⟨S6144x1, .f32⟩
  | .hbm, ⟨10, _⟩ => ⟨S6144x3072, .bf16⟩
  | .hbm, ⟨11, _⟩ => ⟨S6144x3072, .bf16⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S1024x3072, .bf16⟩
  | .local _ .vmem, ⟨5, _⟩ => ⟨S1024x3072, .bf16⟩
  | .local _ .vmem, ⟨6, _⟩ => ⟨S1x3072, .f32⟩
  | .local _ .vmem, ⟨7, _⟩ => ⟨S512x3072, .bf16⟩
  | .local _ .vmem, ⟨8, _⟩ => ⟨S512x3072, .bf16⟩
  | .local _ .vmem, ⟨9, _⟩ => ⟨S512x3072, .bf16⟩
  | .local _ .vmem, ⟨10, _⟩ => ⟨S512x3072, .bf16⟩
  | .local _ .vmem, ⟨11, _⟩ => ⟨S512x1024, .i8⟩
  | .local _ .vmem, ⟨12, _⟩ => ⟨S512x1024, .i8⟩
  | .local _ .vmem, ⟨13, _⟩ => ⟨S512x1024, .bf16⟩
  | .local _ .vmem, ⟨14, _⟩ => ⟨S512x1024, .bf16⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S512x1, .f32⟩
  | .local _ .vmem, ⟨19, _⟩ => ⟨S512x3072, .bf16⟩
  | .local _ .vmem, ⟨20, _⟩ => ⟨S512x3072, .bf16⟩
  | .local _ .vmem, ⟨21, _⟩ => ⟨S512x3072, .bf16⟩
  | .local _ .vmem, ⟨22, _⟩ => ⟨S512x3072, .bf16⟩
  | .local _ .vmem, ⟨23, _⟩ => ⟨S512x3072, .f32⟩
  | _, _ => ⟨S6144x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![12, 8], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c0_i32_3 : BitVec 32 := 0#32
  let v6 : BitVec 1 := Scalar.cmpi .sgt arg1 c0_i32_3
  let c7_i32 : BitVec 32 := 7#32
  let v7 : BitVec 1 := Scalar.cmpi .slt arg1 c7_i32
  let v8 : BitVec 1 := Scalar.andi v6 v7
  let v9 : BitVec 32 := Scalar.extui v8
  let c0_i32_4 : BitVec 32 := 0#32
  let v10 : BitVec 1 := Scalar.cmpi .ne v9 c0_i32_4
  v10

def k0_cond4 (i : grid0.Coords) : BitVec 1 :=
  let arg1 : BitVec 32 := BitVec.ofNat 32 (i 1).val
  let c7_i32_5 : BitVec 32 := 7#32
  let v11 : BitVec 1 := Scalar.cmpi .eq arg1 c7_i32_5
  let v12 : BitVec 32 := Scalar.extui v11
  let c0_i32_6 : BitVec 32 := 0#32
  let v13 : BitVec 1 := Scalar.cmpi .ne v12 c0_i32_6
  v13

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== DownRefIdeal.lean ====
abbrev S6144x8192 : Shape := ⟨2, ![6144, 8192]⟩
abbrev S6144x128 : Shape := ⟨2, ![6144, 128]⟩
abbrev S8192x3072 : Shape := ⟨2, ![8192, 3072]⟩
abbrev S1x3072 : Shape := ⟨2, ![1, 3072]⟩
abbrev S6144x3072 : Shape := ⟨2, ![6144, 3072]⟩
abbrev S6144x1 : Shape := ⟨2, ![6144, 1]⟩
abbrev S6144 : Shape := ⟨1, ![6144]⟩

abbrev nBuf : Space → Nat
  | .hbm => 12
  | .vmem => 12
  | .smem => 0
  | _ => 0

abbrev bufTy : (tb : Table) → Fin (tcTables nBuf tb) → BufTy
  | .hbm, ⟨0, _⟩ => ⟨S6144x8192, .f32⟩
  | .hbm, ⟨1, _⟩ => ⟨S6144x128, .f32⟩
  | .hbm, ⟨2, _⟩ => ⟨S8192x3072, .bf16⟩
  | .hbm, ⟨3, _⟩ => ⟨S1x3072, .f32⟩
  | .hbm, ⟨4, _⟩ => ⟨S6144x3072, .bf16⟩
  | .hbm, ⟨5, _⟩ => ⟨S6144x3072, .bf16⟩
  | .hbm, ⟨6, _⟩ => ⟨S6144x8192, .i8⟩
  | .hbm, ⟨7, _⟩ => ⟨S6144x8192, .bf16⟩
  | .hbm, ⟨8, _⟩ => ⟨S6144x1, .f32⟩
  | .hbm, ⟨9, _⟩ => ⟨S6144x1, .f32⟩
  | .hbm, ⟨10, _⟩ => ⟨S6144x3072, .bf16⟩
  | .hbm, ⟨11, _⟩ => ⟨S6144x3072, .bf16⟩
  | .local _ .vmem, ⟨0, _⟩ => ⟨S6144x8192, .f32⟩
  | .local _ .vmem, ⟨1, _⟩ => ⟨S6144x128, .f32⟩
  | .local _ .vmem, ⟨2, _⟩ => ⟨S8192x3072, .bf16⟩
  | .local _ .vmem, ⟨3, _⟩ => ⟨S1x3072, .f32⟩
  | .local _ .vmem, ⟨4, _⟩ => ⟨S6144x3072, .bf16⟩
  | .local _ .vmem, ⟨5, _⟩ => ⟨S6144x3072, .bf16⟩
  | .local _ .vmem, ⟨6, _⟩ => ⟨S6144x8192, .i8⟩
  | .local _ .vmem, ⟨7, _⟩ => ⟨S6144x8192, .bf16⟩
  | .local _ .vmem, ⟨8, _⟩ => ⟨S6144x1, .f32⟩
  | .local _ .vmem, ⟨9, _⟩ => ⟨S6144x1, .f32⟩
  | .local _ .vmem, ⟨10, _⟩ => ⟨S6144x3072, .bf16⟩
  | .local _ .vmem, ⟨11, _⟩ => ⟨S6144x3072, .bf16⟩
  | _, _ => ⟨S6144x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S6144x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x8192 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x8192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6144x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6144x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6144x3072 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6144x3072 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== DAct.lean ====
abbrev S6144x3072 : Shape := ⟨2, ![6144, 3072]⟩
abbrev S8192x3072 : Shape := ⟨2, ![8192, 3072]⟩
abbrev S6144x8192 : Shape := ⟨2, ![6144, 8192]⟩
abbrev S6144x1 : Shape := ⟨2, ![6144, 1]⟩
abbrev S1024x3072 : Shape := ⟨2, ![1024, 3072]⟩
abbrev S512x3072 : Shape := ⟨2, ![512, 3072]⟩
abbrev S1024x512 : Shape := ⟨2, ![1024, 512]⟩
abbrev S1024x1 : Shape := ⟨2, ![1024, 1]⟩
abbrev S256x3072 : Shape := ⟨2, ![256, 3072]⟩
abbrev S256x512 : Shape := ⟨2, ![256, 512]⟩
abbrev S256x1 : Shape := ⟨2, ![256, 1]⟩

abbrev nBuf : Space → Nat
  | .hbm => 7
  | .vmem => 14
  | .smem => 0
  | _ => 0

abbrev bufTy : (tb : Table) → Fin (tcTables nBuf tb) → BufTy
  | .hbm, ⟨0, _⟩ => ⟨S6144x3072, .bf16⟩
  | .hbm, ⟨1, _⟩ => ⟨S8192x3072, .bf16⟩
  | .hbm, ⟨2, _⟩ => ⟨S6144x8192, .f32⟩
  | .hbm, ⟨3, _⟩ => ⟨S6144x8192, .f32⟩
  | .hbm, ⟨4, _⟩ => ⟨S6144x1, .f32⟩
  | .hbm, ⟨5, _⟩ => ⟨S6144x8192, .bf16⟩
  | .hbm, ⟨6, _⟩ => ⟨S6144x8192, .bf16⟩
  | .local _ .vmem, ⟨0, _⟩ => ⟨S1024x3072, .bf16⟩
  | .local _ .vmem, ⟨1, _⟩ => ⟨S1024x3072, .bf16⟩
  | .local _ .vmem, ⟨2, _⟩ => ⟨S512x3072, .bf16⟩
  | .local _ .vmem, ⟨3, _⟩ => ⟨S512x3072, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x1, .f32⟩
  | .local _ .vmem, ⟨9, _⟩ => ⟨S1024x1, .f32⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S6144x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DActRefIdeal.lean ====
abbrev S6144x3072 : Shape := ⟨2, ![6144, 3072]⟩
abbrev S8192x3072 : Shape := ⟨2, ![8192, 3072]⟩
abbrev S6144x8192 : Shape := ⟨2, ![6144, 8192]⟩
abbrev S6144x1 : Shape := ⟨2, ![6144, 1]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S6144x3072, .bf16⟩
  | .hbm, ⟨1, _⟩ => ⟨S8192x3072, .bf16⟩
  | .hbm, ⟨2, _⟩ => ⟨S6144x8192, .f32⟩
  | .hbm, ⟨3, _⟩ => ⟨S6144x8192, .f32⟩
  | .hbm, ⟨4, _⟩ => ⟨S6144x1, .f32⟩
  | .hbm, ⟨5, _⟩ => ⟨S6144x8192, .f32⟩
  | .hbm, ⟨6, _⟩ => ⟨S6144x8192, .f32⟩
  | .hbm, ⟨7, _⟩ => ⟨S6144x8192, .f32⟩
  | .hbm, ⟨8, _⟩ => ⟨S_, .f32⟩
  | .hbm, ⟨9, _⟩ => ⟨S6144x8192, .f32⟩
  | .hbm, ⟨10, _⟩ => ⟨S6144x8192, .f32⟩
  | .hbm, ⟨11, _⟩ => ⟨S_, .f32⟩
  | .hbm, ⟨12, _⟩ => ⟨S6144x8192, .f32⟩
  | .hbm, ⟨13, _⟩ => ⟨S6144x8192, .f32⟩
  | .hbm, ⟨14, _⟩ => ⟨S6144x8192, .f32⟩
  | .hbm, ⟨15, _⟩ => ⟨S6144x8192, .f32⟩
  | .hbm, ⟨16, _⟩ => ⟨S_, .f32⟩
  | .hbm, ⟨17, _⟩ => ⟨S6144x8192, .f32⟩
  | .hbm, ⟨18, _⟩ => ⟨S6144x8192, .f32⟩
  | .hbm, ⟨19, _⟩ => ⟨S6144x8192, .f32⟩
  | .hbm, ⟨20, _⟩ => ⟨S_, .f32⟩
  | .hbm, ⟨21, _⟩ => ⟨S6144x8192, .f32⟩
  | .hbm, ⟨22, _⟩ => ⟨S6144x8192, .f32⟩
  | .hbm, ⟨23, _⟩ => ⟨S6144x8192, .f32⟩
  | .hbm, ⟨24, _⟩ => ⟨S6144x8192, .f32⟩
  | .hbm, ⟨25, _⟩ => ⟨S6144x8192, .f32⟩
  | .hbm, ⟨26, _⟩ => ⟨S6144x8192, .f32⟩
  | .hbm, ⟨27, _⟩ => ⟨S6144x8192, .f32⟩
  | .hbm, ⟨28, _⟩ => ⟨S6144x8192, .bf16⟩
  | .hbm, ⟨29, _⟩ => ⟨S6144x8192, .f32⟩
  | .hbm, ⟨30, _⟩ => ⟨S6144x8192, .f32⟩
  | .hbm, ⟨31, _⟩ => ⟨S6144x8192, .bf16⟩
  | _, _ => ⟨S6144x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Proof.Codes.lean ====
/-
  THE 4-BIT CODES. A packed array holds two signed 4-bit codes per byte: code row `2r` is the low nibble of byte row
  `r`, code row `2r + 1` the high one. The kernel reads four byte rows of a lane as one 32-bit word and moves nibble
  `s` of the word to the top and back (`(W << (28 - 4s)) >> 28`); the reference masks and shifts each byte and
  subtracts 16 from a nibble of 8 or more. Both give the nibble widened with its sign, `nib`.
-/
module

public import Idealize.ShloMosaic.Lib.BitcastFour
public import Idealize.ShloMosaic.Lib.Pointwise
public import Idealize.ShloMosaic.Lib.Pipeline.ValueKit

@[expose] public section

set_option maxRecDepth 16384

noncomputable section

namespace Cert.Math

open Idealize.ShloMosaic

/-- The signed code in the low (`par = 0`) or high (`par = 1`) nibble of a byte. -/
def nib (b : BitVec 8) (par : ℕ) : BitVec 32 := (b.extractLsb' (4 * par) 4).signExtend 32

/-- Nibble `s` of a word, moved to the top and shifted back with its sign. -/
theorem shift_nibble (W : BitVec 32) (s : Fin 8) :
    IntOp.shrsi .vector (IntOp.shli .vector W (IntOp.subi 28#32 (IntOp.muli 4#32 (BitVec.ofNat 32 s)))) 28#32
      = (W.extractLsb' (4 * s) 4).signExtend 32 := by
  have e : IntOp.subi 28#32 (IntOp.muli 4#32 (BitVec.ofNat 32 s)) = BitVec.ofNat 32 (28 - 4 * s) := by
    revert s; decide
  rw [e]
  obtain ⟨s, hs⟩ := s
  have h1 : (BitVec.ofNat 32 (28 - 4 * s)).toNat = 28 - 4 * s := by
    rw [BitVec.toNat_ofNat]; exact Nat.mod_eq_of_lt (by omega)
  have h2 : (28#32 : BitVec 32).toNat = 28 := rfl
  unfold IntOp.shrsi IntOp.shli
  simp only [h1, h2, show 28 - 4 * s < 32 by omega, show 28 < 32 by omega, if_true]
  show BitVec.sshiftRight' _ _ = _
  unfold BitVec.sshiftRight'
  rw [h2, BitVec.shiftLeft_eq', h1]
  apply BitVec.eq_of_getLsbD_eq
  intro i hi
  rw [BitVec.getLsbD_sshiftRight, BitVec.getLsbD_signExtend]
  simp only [BitVec.msb_eq_getLsbD_last, BitVec.getLsbD_shiftLeft, BitVec.getLsbD_extractLsb']
  by_cases h4 : i < 4
  · have : 28 + i < 32 := by omega
    simp [h4, this, show ¬ 32 ≤ i by omega, show ¬ 28 + i < 28 - 4 * s by omega, show i < 32 by omega]
    congr 1; omega
  · have : ¬ 28 + i < 32 := by omega
    simp [h4, this, show ¬ 32 ≤ i by omega, show ¬ 31 < 28 - 4 * s by omega, show i < 32 by omega]
    congr 1; omega

/-- Nibble `s` of the word that four byte rows of a lane make is nibble `s % 2` of byte row `4a + s / 2`. -/
theorem word_nibble {R r n : ℕ} (x : (⟨2, ![R, n]⟩ : Shape).Idx → BitVec 8)
    (h : (⟨2, ![R, n]⟩ : Shape).Bitcasts 8 ⟨2, ![r, n]⟩ 32) (a : Fin r) (l : Fin n) (s : Fin 8) (p : Fin R)
    (hp : p.val = 4 * a.val + s.val / 2) :
    ((bitcast ⟨2, ![r, n]⟩ 32 x h (ix2 a l)).extractLsb' (4 * s) 4).signExtend 32 = nib (x (ix2 p l)) (s.val % 2) := by
  unfold nib
  congr 1
  apply BitVec.eq_of_getLsbD_eq
  intro i hi
  rw [BitVec.getLsbD_extractLsb', BitVec.getLsbD_extractLsb']
  have e : ∀ (m n : ℕ) (c : Fin m) (d : Fin n), ValueIdx.ix2 c d = ix2 c d := fun m n c d => by
    funext k; match k with | ⟨0, _⟩ => rfl | ⟨1, _⟩ => rfl
  have hb := bitcast_8_32_getLsbD_ix2 x h a l (4 * s + i) (by omega) p (by omega)
  rw [e, e] at hb
  rw [hb]
  congr 2; omega

/-- The reference's code of row `r` from its byte: the masked or shifted nibble, less 16 from 8 on. -/
def refNib (b : BitVec 8) (r : ℕ) : BitVec 32 :=
  if r % 2 < 1 then
    Scalar.select (IntOp.cmpi .sge (IntOp.andi (b.setWidth 32) 15#32) 8#32)
      (IntOp.subi (IntOp.andi (b.setWidth 32) 15#32) 16#32) (IntOp.andi (b.setWidth 32) 15#32)
  else
    Scalar.select (IntOp.cmpi .sge (IntOp.shrsi .host (b.setWidth 32) 4#32) 8#32)
      (IntOp.subi (IntOp.shrsi .host (b.setWidth 32) 4#32) 16#32) (IntOp.shrsi .host (b.setWidth 32) 4#32)

theorem refNib_eq (b : BitVec 8) (r : ℕ) : refNib b r = nib b (r % 2) := by
  have h0 : ∀ b : BitVec 8, refNib b 0 = nib b 0 := by decide +kernel
  have h1 : ∀ b : BitVec 8, refNib b 1 = nib b 1 := by decide +kernel
  rcases Nat.mod_two_eq_zero_or_one r with h | h
  · rw [h, ← h0]; unfold refNib; rw [h]
  · rw [h, ← h1]; unfold refNib; rw [h]

end Cert.Math

end
-- ==== Proof.Chunk.lean ====
/-
  THE DERIVATIVE OF A SOFT-ROUNDED WEIGHT, eight rows at a time, as the kernel writes it.
-/
module

public import proofs.«01_k».proof.Proof.Codes

@[expose] public section

set_option maxRecDepth 16384

noncomputable section

namespace Cert.Math

open Idealize.ShloMosaic

abbrev S8x1024 : Shape := ⟨2, ![8, 1024]⟩
abbrev S1x1024 : Shape := ⟨2, ![1, 1024]⟩
abbrev S64x1024 : Shape := ⟨2, ![64, 1024]⟩
abbrev S128x1024 : Shape := ⟨2, ![128, 1024]⟩
abbrev S256x1024 : Shape := ⟨2, ![256, 1024]⟩

/-- The eight code rows held in word row `w`. -/
def codes8 {F : FTy → Type} [FloatOps F] (words : IVec S64x1024 32) (w : ℕ) (hw : S64x1024.Slices ![w, 0] S1x1024)
    (hc : S1x1024.ShapeCasts S1x1024 := by decide) (hb : S1x1024.Broadcasts S8x1024 := by decide)
    (hi : S8x1024.Iotas .tc 32 [0] := by decide) : FVec F S8x1024 .f32 :=
  sitofp .f32 (shrsi (shli (broadcastTo S8x1024 (shapeCast S1x1024 (extractStridedSlice S1x1024 ![w, 0] words hw) hc) hb)
    (subi (broadcast S8x1024 28#32) (muli (broadcast S8x1024 4#32) (iota .tc S8x1024 32 [0] hi)))) (broadcast S8x1024 28#32))

theorem codes8_at (words : IVec S64x1024 32) (w : Fin 64) (hw hc hb hi) (s : Fin 8) (j : Fin 1024) :
    codes8 (F := Ideal) words w hw hc hb hi (ix2 s j)
      = FloatOps.sitofp .f32 (((words (ix2 w j)).extractLsb' (4 * s) 4).signExtend 32) := by
  rw [← shift_nibble]
  pointwise [codes8]

/-- The derivative from the codes `c` and the rounding variables `v` of any shape. -/
def derS {F : FTy → Type} [FloatOps F] (S : Shape) (c v : FVec F S .f32) : FVec F S .f32 :=
  have sg : FVec F S .f32 := logistic v
  have pre : FVec F S .f32 := addf (mulf sg (broadcast S (Scalar.ofBits .f32 0x3F99999A#32))) (broadcast S (Scalar.ofBits .f32 0xBDCCCCCD#32))
  have q : FVec F S .f32 := addf c (minimumf (broadcast S (Scalar.ofBits .f32 0x3F800000#32)) (maximumf (broadcast S (Scalar.ofBits .f32 0x00000000#32)) pre))
  select
    (andi (andi (andi (cmpf .oge q (broadcast S (Scalar.ofBits .f32 0xC1000000#32))) (cmpf .ole q (broadcast S (Scalar.ofBits .f32 0x40E00000#32))))
      (cmpf .ogt pre (broadcast S (Scalar.ofBits .f32 0x00000000#32)))) (cmpf .olt pre (broadcast S (Scalar.ofBits .f32 0x3F800000#32))))
    (mulf (mulf (broadcast S (Scalar.ofBits .f32 0x3F99999A#32)) sg) (subf (broadcast S (Scalar.ofBits .f32 0x3F800000#32)) sg))
    (broadcast S (Scalar.ofBits .f32 0x00000000#32))

/-- The same of one code and one rounding variable. -/
def der {F : FTy → Type} [FloatOps F] (c v : F .f32) : F .f32 :=
  derS (F := F) ⟨0, ![]⟩ (fun _ => c) (fun _ => v) (fun a => Fin.elim0 a)

theorem derS_at {F : FTy → Type} [FloatOps F] (S : Shape) (c v : FVec F S .f32) (i : S.Idx) :
    derS S c v i = der (c i) (v i) := rfl

/-- Sixteen slabs of eight rows, read at row `8k + s`. -/
theorem slabs_at {α : Type} (f : Fin 16 → S8x1024.Idx → α)
    (h : Shape.Concatenates ((List.ofFn fun n : Fin 16 => (⟨S8x1024, f n⟩ : (s : Shape) × (s.Idx → α))).map (·.1)) S128x1024 0)
    (r : Fin 128) (j : Fin 1024) :
    concatenate S128x1024 0 (List.ofFn fun n : Fin 16 => (⟨S8x1024, f n⟩ : (s : Shape) × (s.Idx → α))) h (ix2 r j)
      = f ⟨r / 8, by omega⟩ (ix2 ⟨r % 8, by omega⟩ j) := by
  refine concatenate_ofFn_apply 0 f h rfl 8 rfl _ _ rfl _ rfl ?_
  intro b hb
  match b with
  | ⟨0, _⟩ => exact absurd rfl hb
  | ⟨1, _⟩ => rfl

/-- One stored piece: 128 rows of the gradient, from the word rows `base …`, the product `dq` and the sixteen slabs of
    rounding variables. -/
def dvPiece {F : FTy → Type} [FloatOps F] (words : IVec S64x1024 32) (scale : FVec F S1x1024 .f32) (dq : FVec F S128x1024 .f32)
    (base : ℕ) (hw : ∀ k : Fin 16, S64x1024.Slices ![base + k, 0] S1x1024) (vs : Fin 16 → FVec F S8x1024 .f32)
    (hc : S1x1024.ShapeCasts S1x1024 := by decide) (hb : S1x1024.Broadcasts S8x1024 := by decide)
    (hi : S8x1024.Iotas .tc 32 [0] := by decide) (hs : S1x1024.Broadcasts S128x1024 := by decide)
    (hq : Shape.Concatenates [S8x1024, S8x1024, S8x1024, S8x1024, S8x1024, S8x1024, S8x1024, S8x1024, S8x1024, S8x1024,
      S8x1024, S8x1024, S8x1024, S8x1024, S8x1024, S8x1024] S128x1024 0 := by decide) : FVec F S128x1024 .f32 :=
  mulf (mulf (broadcastTo S128x1024 scale hs) dq)
    (concatenate S128x1024 0 (List.ofFn fun k : Fin 16 =>
      (⟨S8x1024, derS S8x1024 (codes8 words (base + k) (hw k) hc hb hi) (vs k)⟩ : (s : Shape) × (s.Idx → F .f32))) hq)

theorem dvPiece_at (words : IVec S64x1024 32) (scale : FVec Ideal S1x1024 .f32) (dq : FVec Ideal S128x1024 .f32)
    (base : ℕ) (hw) (vs : Fin 16 → FVec Ideal S8x1024 .f32) (hc hb hi hs hq) (hbase : base + 16 ≤ 64) (r : Fin 128) (j : Fin 1024) :
    dvPiece words scale dq base hw vs hc hb hi hs hq (ix2 r j)
      = FloatOps.mulf (FloatOps.mulf (scale (ix2 0 j)) (dq (ix2 r j)))
          (der (FloatOps.sitofp .f32 (((words (ix2 ⟨base + r / 8, by omega⟩ j)).extractLsb' (4 * (r % 8)) 4).signExtend 32))
            (vs ⟨r / 8, by omega⟩ (ix2 ⟨r % 8, by omega⟩ j))) := by
  have e := slabs_at (fun k : Fin 16 => derS S8x1024 (codes8 (F := Ideal) words (base + k) (hw k) hc hb hi) (vs k)) hq r j
  have hc8 := codes8_at words ⟨base + r / 8, by omega⟩ (hw ⟨r / 8, by omega⟩) hc hb hi ⟨r % 8, by omega⟩ j
  have hsc : broadcastTo S128x1024 scale hs (ix2 r j) = scale (ix2 0 j) := by pointwise
  rw [derS_at] at e
  dsimp only at e hc8
  rw [hc8] at e
  exact congrArg₂ FloatOps.mulf (congrArg₂ FloatOps.mulf hsc rfl) e

end Cert.Math

end
-- ==== Proof.Spec.lean ====
/-
  WHAT THE CALLS COMPUTE, over arrays of any extents.
-/
module

public import proofs.«01_k».proof.Proof.Chunk

@[expose] public section

set_option maxRecDepth 16384

noncomputable section

namespace Cert.Math

open Idealize.ShloMosaic

/-- The code of weight row `r`: packed two rows to the byte. -/
def codeAt {R2 R C : ℕ} (p : (⟨2, ![R2, C]⟩ : Shape).Idx → BitVec 8) (h : R = 2 * R2) (r : Fin R) (c : Fin C) : BitVec 32 :=
  nib (p (ix2 ⟨r / 2, by omega⟩ c)) (r % 2)

/-- The gradient of the rounding variables of a weight: the product over the tokens, scaled, times the derivative. -/
def dvSpec {T R2 R C : ℕ} (x : FVec Ideal ⟨2, ![T, R]⟩ .bf16) (y : FVec Ideal ⟨2, ![T, C]⟩ .bf16)
    (p : (⟨2, ![R2, C]⟩ : Shape).Idx → BitVec 8) (v : FVec Ideal ⟨2, ![R, C]⟩ .f32) (s : FVec Ideal ⟨2, ![1, C]⟩ .f32)
    (h : R = 2 * R2) (i : (⟨2, ![R, C]⟩ : Shape).Idx) : EReal :=
  ((s (ix2 0 (i 1)) : EReal) * ∑ k : Fin T, (x (ix2 k (i 0)) : EReal) * (y (ix2 k (i 1)) : EReal))
    * (der (FloatOps.sitofp .f32 (codeAt p h (i 0) (i 1))) (v i) : Ideal .f32)

/-- The product that carries the loss's gradient back through the down projection. -/
def dActSpec {T D N : ℕ} (dy : FVec Ideal ⟨2, ![T, D]⟩ .bf16) (w : FVec Ideal ⟨2, ![N, D]⟩ .bf16) (i : (⟨2, ![T, N]⟩ : Shape).Idx) : EReal :=
  ∑ k : Fin D, (dy (ix2 (i 0) k) : EReal) * (w (ix2 (i 1) k) : EReal)

/-- The scaled gradient at the gate, and at the up projection. -/
def dGateSpec {T D N : ℕ} (dy : FVec Ideal ⟨2, ![T, D]⟩ .bf16) (w : FVec Ideal ⟨2, ![N, D]⟩ .bf16) (g u : FVec Ideal ⟨2, ![T, N]⟩ .f32)
    (s : FVec Ideal ⟨2, ![T, 1]⟩ .f32) (i : (⟨2, ![T, N]⟩ : Shape).Idx) : EReal :=
  (dActSpec dy w i * u i * Ideal.logistic (g i)) * (1 + g i * (1 - Ideal.logistic (g i))) * s (ix2 (i 0) 0)

def dUpSpec {T D N : ℕ} (dy : FVec Ideal ⟨2, ![T, D]⟩ .bf16) (w : FVec Ideal ⟨2, ![N, D]⟩ .bf16) (g : FVec Ideal ⟨2, ![T, N]⟩ .f32)
    (s : FVec Ideal ⟨2, ![T, 1]⟩ .f32) (i : (⟨2, ![T, N]⟩ : Shape).Idx) : EReal :=
  (dActSpec dy w i * (g i * Ideal.logistic (g i))) * s (ix2 (i 0) 0)

abbrev S512x1024 : Shape := ⟨2, ![512, 1024]⟩
abbrev S6144x512 : Shape := ⟨2, ![6144, 512]⟩
abbrev S6144x1024 : Shape := ⟨2, ![6144, 1024]⟩

/-- Eight rows of a block of rounding variables, from row `o`. -/
def slab {F : FTy → Type} (v : FVec F S512x1024 .f32) (o : ℕ)
    (h : ∀ a, (![o, 0] : Fin 2 → ℕ) a + S8x1024.size a ≤ S512x1024.size a) : FVec F S8x1024 .f32 :=
  fun x => v ((Rect.unit (s := S512x1024) ![o, 0] S8x1024.size h).idx x)

theorem slab_at {F : FTy → Type} (v : FVec F S512x1024 .f32) (o : ℕ) (h) (s : Fin 8) (j : Fin 1024) (q : Fin 512)
    (hq : q.val = o + s.val) : slab v o h (ix2 s j) = v (ix2 q j) := by
  unfold slab
  congr 1
  funext a
  apply Fin.ext
  rw [Rect.idx_unit_val]
  match a with
  | ⟨0, _⟩ => exact hq.symm
  | ⟨1, _⟩ => exact Nat.zero_add _

theorem slab_inb {o : ℕ} (h : o + 8 ≤ 512) : ∀ a, (![o, 0] : Fin 2 → ℕ) a + S8x1024.size a ≤ S512x1024.size a := by
  intro a
  match a with
  | ⟨0, _⟩ => exact h
  | ⟨1, _⟩ => exact Nat.le_refl 1024

theorem row_slices {w : ℕ} (h : w + 1 ≤ 64) : S64x1024.Slices ![w, 0] S1x1024 := by
  refine ⟨rfl, fun a => ?_⟩
  match a with
  | ⟨0, _⟩ => exact h
  | ⟨1, _⟩ => exact Nat.le_refl 1024

/-- Piece `c` of a block of the gradient: its rows `128c …`. -/
def dvRows {F : FTy → Type} [FloatOps F] (c : ℕ) (hc : c < 4) (p : (S256x1024).Idx → BitVec 8) (v : FVec F S512x1024 .f32)
    (s : FVec F S1x1024 .f32) (dq : FVec F S128x1024 .f32) (hp : S256x1024.Bitcasts 8 S64x1024 32 := by decide) :
    FVec F S128x1024 .f32 :=
  dvPiece (bitcast S64x1024 32 p hp) s dq (16 * c) (fun k => row_slices (by omega))
    (fun k => slab v (128 * c + 8 * k) (slab_inb (by omega)))

theorem dvRows_at (c : ℕ) (hc : c < 4) (x : FVec Ideal S6144x512 .bf16) (y : FVec Ideal S6144x1024 .bf16) (p : S256x1024.Idx → BitVec 8)
    (v : FVec Ideal S512x1024 .f32) (s : FVec Ideal S1x1024 .f32) (dq : FVec Ideal S128x1024 .f32) (hp)
    (r : Fin 128) (j : Fin 1024) (q : Fin 512) (hq : q.val = 128 * c + r.val)
    (hdq : dq (ix2 r j) = ∑ k : Fin 6144, (x (ix2 k q) : EReal) * (y (ix2 k j) : EReal)) :
    dvRows c hc p v s dq hp (ix2 r j) = dvSpec x y p v s (R2 := 256) rfl (ix2 q j) := by
  unfold dvRows
  rw [dvPiece_at _ _ _ _ _ _ _ _ _ _ _ (by omega)]
  have h1 := word_nibble p hp ⟨16 * c + r / 8, by omega⟩ j ⟨r % 8, by omega⟩ ⟨q / 2, by omega⟩ (by show q.val / 2 = 4 * (16 * c + r.val / 8) + r.val % 8 / 2; omega)
  dsimp only at h1
  rw [h1, slab_at v _ _ _ _ q (by show q.val = 128 * c + 8 * (r.val / 8) + r.val % 8; omega), hdq,
    show r.val % 8 % 2 = q.val % 2 by omega]
  rfl

end Cert.Math

end
-- ==== Proof.DvGateVal.lean ====
/-
  THE GRADIENT CALL: every block it writes is the block of the whole gradient.
-/
module

public import proofs.«01_k».proof.Proof.Spec
public import proofs.«01_k».proof.Proof.Gen.DvGateIdeal.Value

@[expose] public section

set_option maxRecDepth 16384

noncomputable section

namespace Cert.DvGateIdeal.Value

open Cert.DvGateIdeal Cert.DvGateIdeal.Gen Idealize.ShloMosaic Idealize.ShloMosaic.TcCoe Idealize.SL.Sem Cert.Math

theorem ld_lhs (x : Vec Ideal S6144x1024 .bf16) : View.ld x r0_3 = x := View.ld_unit_zero (by funext a; match a with | ⟨0, _⟩ => rfl | ⟨1, _⟩ => rfl) _ x
theorem ld_codes (x : Vec Ideal S256x1024 .i8) : View.ld x r0_0 = x := View.ld_unit_zero (by funext a; match a with | ⟨0, _⟩ => rfl | ⟨1, _⟩ => rfl) _ x
theorem ld_scale (x : Vec Ideal S1x1024 .f32) : View.ld x r0_1 = x := View.ld_unit_zero (by funext a; match a with | ⟨0, _⟩ => rfl | ⟨1, _⟩ => rfl) _ x

/-- One block of the call. -/
theorem out_eq (x0 : Vec Ideal S6144x512 .bf16) (x1 : Vec Ideal S6144x1024 .bf16) (x2 : Vec Ideal S256x1024 .i8) (x3 : Vec Ideal S512x1024 .f32)
    (x4 : Vec Ideal S1x1024 .f32) (q : Fin 512) (j : Fin 1024) : out0_5 x0 x1 x2 x3 x4 (ix2 q j) = dvSpec (R2 := 256) x0 x1 x2 x3 x4 rfl (ix2 q j) := by
  have E : dvSpec (R2 := 256) x0 x1 x2 x3 x4 rfl (ix2 q j)
      = dvSpec (R2 := 256) x0 (View.ld x1 r0_3) (View.ld x2 r0_0) x3 (View.ld x4 r0_1) rfl (ix2 q j) := by
    rw [ld_lhs, ld_codes, ld_scale]
  rw [E]
  canon_tiles x h
  case piece3 =>
    refine (congrFun (g := dvRows (F := Ideal) 0 (by decide) (View.ld x2 r0_0) x3 (View.ld x4 r0_1) (k0_pay2 (View.ld x0 r0_2) (View.ld x1 r0_3)) (by decide)) (by exact rfl) x).trans ?_
    obtain ⟨r, l, rfl⟩ : ∃ r l, x = ix2 r l := ⟨x 0, x 1, by funext a; match a with | ⟨0, _⟩ => rfl | ⟨1, _⟩ => rfl⟩
    obtain rfl : j = l := Fin.ext h1
    have hq : q.val = r.val := h0
    refine dvRows_at 0 (by decide) x0 (View.ld x1 r0_3) (View.ld x2 r0_0) x3 (View.ld x4 r0_1) _ (by decide) r j q (by omega) ?_
    pointwise [k0_pay2]
    blk_point []
  case piece2 =>
    refine (congrFun (g := dvRows (F := Ideal) 1 (by decide) (View.ld x2 r0_0) x3 (View.ld x4 r0_1) (k0_pay59 (View.ld x0 r0_21) (View.ld x1 r0_3)) (by decide)) (by exact rfl) x).trans ?_
    obtain ⟨r, l, rfl⟩ : ∃ r l, x = ix2 r l := ⟨x 0, x 1, by funext a; match a with | ⟨0, _⟩ => rfl | ⟨1, _⟩ => rfl⟩
    obtain rfl : j = l := Fin.ext h1
    have hq : q.val = 128 + r.val := h0
    refine dvRows_at 1 (by decide) x0 (View.ld x1 r0_3) (View.ld x2 r0_0) x3 (View.ld x4 r0_1) _ (by decide) r j q (by omega) ?_
    pointwise [k0_pay59]
    blk_point []
  case piece1 =>
    refine (congrFun (g := dvRows (F := Ideal) 2 (by decide) (View.ld x2 r0_0) x3 (View.ld x4 r0_1) (k0_pay121 (View.ld x0 r0_39) (View.ld x1 r0_3)) (by decide)) (by exact rfl) x).trans ?_
    obtain ⟨r, l, rfl⟩ : ∃ r l, x = ix2 r l := ⟨x 0, x 1, by funext a; match a with | ⟨0, _⟩ => rfl | ⟨1, _⟩ => rfl⟩
    obtain rfl : j = l := Fin.ext h1
    have hq : q.val = 256 + r.val := h0
    refine dvRows_at 2 (by decide) x0 (View.ld x1 r0_3) (View.ld x2 r0_0) x3 (View.ld x4 r0_1) _ (by decide) r j q (by omega) ?_
    pointwise [k0_pay121]
    blk_point []
  case piece0 =>
    refine (congrFun (g := dvRows (F := Ideal) 3 (by decide) (View.ld x2 r0_0) x3 (View.ld x4 r0_1) (k0_pay174 (View.ld x0 r0_57) (View.ld x1 r0_3)) (by decide)) (by exact rfl) x).trans ?_
    obtain ⟨r, l, rfl⟩ : ∃ r l, x = ix2 r l := ⟨x 0, x 1, by funext a; match a with | ⟨0, _⟩ => rfl | ⟨1, _⟩ => rfl⟩
    obtain rfl : j = l := Fin.ext h1
    have hq : q.val = 384 + r.val := h0
    refine dvRows_at 3 (by decide) x0 (View.ld x1 r0_3) (View.ld x2 r0_0) x3 (View.ld x4 r0_1) _ (by decide) r j q (by omega) ?_
    pointwise [k0_pay174]
    blk_point []

variable (m : (ℓ : Loc nD τ sig) → Buf (Elt Ideal) ℓ)

/-- The windows' index maps, every point at once. -/
theorem idx : ∀ t : Fin cfg0.N, win0_0.index t = ![0, t.val % 6] ∧ win0_1.index t = ![0, t.val / 6] ∧ win0_2.index t = ![t.val % 6, t.val / 6]
    ∧ win0_3.index t = ![t.val % 6, t.val / 6] ∧ win0_4.index t = ![0, t.val / 6] ∧ win0_5.index t = ![t.val % 6, t.val / 6] :=
  (by decide +kernel : ∀ t : Fin grid0.N, _)

/-- A block of the call is the block of the gradient of the whole arrays. -/
theorem point (c : Dev nD) (t : Fin cfg0.N) (y : S512x1024.Idx) :
    out0_5 (iblk m c 0 t) (iblk m c 1 t) (iblk m c 2 t) (iblk m c 3 t) (iblk m c 4 t) y
      = dvSpec (R2 := 1536) (m ((c : Thread nD τ).loc main_arg0)) (m ((c : Thread nD τ).loc main_arg1)) (m ((c : Thread nD τ).loc main_arg2))
          (m ((c : Thread nD τ).loc main_arg3)) (m ((c : Thread nD τ).loc main_arg4)) rfl (((cfg0.win 5).blk t).view.emb y) := by
  obtain ⟨q, j, rfl⟩ : ∃ q j, y = ix2 q j := ⟨y 0, y 1, by funext a; match a with | ⟨0, _⟩ => rfl | ⟨1, _⟩ => rfl⟩
  rw [out_eq]
  have hpar : (((cfg0.win 5).blk t).view.emb (ix2 q j) 0).val % 2 = q.val % 2 := by
    blk_simp [idx t]
    omega
  unfold dvSpec codeAt
  rw [hpar]
  blk_point [iblk, V, idx t]

theorem final (c : Dev nD) : (dats m 0 c).arrAt 5 (cfgs 0).N
    = dvSpec (R2 := 1536) (m ((c : Thread nD τ).loc main_arg0)) (m ((c : Thread nD τ).loc main_arg1)) (m ((c : Thread nD τ).loc main_arg2))
        (m ((c : Thread nD τ).loc main_arg3)) (m ((c : Thread nD τ).loc main_arg4)) rfl := by
  refine (dats m 0 c).arrAt_eq_of_covers 5 _ (by decide +kernel) fun t _ y => ?_
  blk_simp
  rw [after0_5]
  exact point m c t y

end Cert.DvGateIdeal.Value

end
-- ==== Proof.DvGateRef.lean ====
module

public import proofs.«01_k».proof.Proof.Spec
public import proofs.«01_k».proof.Proof.Gen.DvGateRefIdeal.Run

@[expose] public section

set_option maxRecDepth 16384

noncomputable section

namespace Cert.DvGateRefIdeal.Value

open Cert.DvGateRefIdeal Cert.DvGateRefIdeal.Gen Idealize.ShloMosaic Idealize.ShloMosaic.TcCoe Idealize.SL.Sem

open Cert.Math in
theorem res_eq (m : (ℓ : Loc nD τ sig) → Buf (Elt Ideal) ℓ) (c : Dev nD) :
    res_out0 m c = dvSpec (R2 := 1536) (m (c.tc.loc main_arg0)) (m (c.tc.loc main_arg1)) (m (c.tc.loc main_arg2))
      (m (c.tc.loc main_arg3)) (m (c.tc.loc main_arg4)) rfl := by
  funext i
  obtain ⟨r, j, rfl⟩ : ∃ r j, i = ix2 r j := ⟨i 0, i 1, by funext a; match a with | ⟨0, _⟩ => rfl | ⟨1, _⟩ => rfl⟩
  simp only [dvSpec, codeAt, ← refNib_eq]
  pointwise [res_out0, res_main_v54, der, derS, refNib, id, Ideal.logistic]
  rfl

end Cert.DvGateRefIdeal.Value

end
-- ==== Proof.DvGateAlg.lean ====
/-
  THE GRADIENT at the rounding variables of the gate (and, the same call, of the up) projection, against the same gradient written plainly.
-/
module

public import proofs.«01_k».proof.Proof.DvGateVal
public import proofs.«01_k».proof.Proof.DvGateRef
public import proofs.«01_k».proof.Defs
public import Idealize.ShloMosaic.Lib.Claim

@[expose] public section

set_option maxRecDepth 16384

noncomputable section

namespace Cert.Proof

open Idealize.ShloMosaic Idealize.ShloMosaic.TcCoe Idealize.SL.Sem Cert.Math

theorem algebraic_dvGate : Cert.algebraic_DvGateIdeal_DvGateRefIdeal := by
  pair_intro
  · run_from Cert.DvGateIdeal.Gen.run_main m g
  · run_from Cert.DvGateRefIdeal.Value.run m' g'
    obtain ⟨e0, e1, e2, e3, e4⟩ := hagree c
    refine (Cert.DvGateRefIdeal.Value.res_eq m' c).trans ?_
    rw [e0, e1, e2, e3, e4, Cert.DvGateIdeal.Value.final m c]

end Cert.Proof

end
-- ==== Proof.DvDownVal.lean ====
/-
  THE GRADIENT CALL of the down weight: the same body over other arrays.
-/
module

public import proofs.«01_k».proof.Proof.DvGateVal
public import proofs.«01_k».proof.Proof.Gen.DvDownIdeal.Value

@[expose] public section

set_option maxRecDepth 16384

noncomputable section

namespace Cert.DvDownIdeal.Value

open Cert.DvDownIdeal Cert.DvDownIdeal.Gen Idealize.ShloMosaic Idealize.ShloMosaic.TcCoe Idealize.SL.Sem Cert.Math

variable (m : (ℓ : Loc nD τ sig) → Buf (Elt Ideal) ℓ)

theorem out_same (x0 : Vec Ideal S6144x512 .bf16) (x1 : Vec Ideal S6144x1024 .bf16) (x2 : Vec Ideal S256x1024 .i8) (x3 : Vec Ideal S512x1024 .f32)
    (x4 : Vec Ideal S1x1024 .f32) : out0_5 x0 x1 x2 x3 x4 = Cert.DvGateIdeal.Gen.out0_5 x0 x1 x2 x3 x4 := by exact rfl

/-- The windows' index maps, every point at once. -/
theorem idx : ∀ t : Fin cfg0.N, win0_0.index t = ![0, t.val % 16] ∧ win0_1.index t = ![0, t.val / 16] ∧ win0_2.index t = ![t.val % 16, t.val / 16]
    ∧ win0_3.index t = ![t.val % 16, t.val / 16] ∧ win0_4.index t = ![0, t.val / 16] ∧ win0_5.index t = ![t.val % 16, t.val / 16] :=
  (by decide +kernel : ∀ t : Fin grid0.N, _)

/-- A block of the call is the block of the gradient of the whole arrays. -/
theorem point (c : Dev nD) (t : Fin cfg0.N) (y : S512x1024.Idx) :
    out0_5 (iblk m c 0 t) (iblk m c 1 t) (iblk m c 2 t) (iblk m c 3 t) (iblk m c 4 t) y
      = dvSpec (R2 := 4096) (m ((c : Thread nD τ).loc main_arg0)) (m ((c : Thread nD τ).loc main_arg1)) (m ((c : Thread nD τ).loc main_arg2))
          (m ((c : Thread nD τ).loc main_arg3)) (m ((c : Thread nD τ).loc main_arg4)) rfl (((cfg0.win 5).blk t).view.emb y) := by
  obtain ⟨q, j, rfl⟩ : ∃ q j, y = ix2 q j := ⟨y 0, y 1, by funext a; match a with | ⟨0, _⟩ => rfl | ⟨1, _⟩ => rfl⟩
  rw [out_same, Cert.DvGateIdeal.Value.out_eq]
  have hpar : (((cfg0.win 5).blk t).view.emb (ix2 q j) 0).val % 2 = q.val % 2 := by
    blk_simp [idx t]
    omega
  unfold dvSpec codeAt
  rw [hpar]
  blk_point [iblk, V, idx t]

theorem final (c : Dev nD) : (dats m 0 c).arrAt 5 (cfgs 0).N
    = dvSpec (R2 := 4096) (m ((c : Thread nD τ).loc main_arg0)) (m ((c : Thread nD τ).loc main_arg1)) (m ((c : Thread nD τ).loc main_arg2))
        (m ((c : Thread nD τ).loc main_arg3)) (m ((c : Thread nD τ).loc main_arg4)) rfl := by
  refine (dats m 0 c).arrAt_eq_of_covers 5 _ (by decide +kernel) fun t _ y => ?_
  blk_simp
  rw [after0_5]
  exact point m c t y

end Cert.DvDownIdeal.Value

end
-- ==== Proof.DvDownRef.lean ====
module

public import proofs.«01_k».proof.Proof.Spec
public import proofs.«01_k».proof.Proof.Gen.DvDownRefIdeal.Run

@[expose] public section

set_option maxRecDepth 16384

noncomputable section

namespace Cert.DvDownRefIdeal.Value

open Cert.DvDownRefIdeal Cert.DvDownRefIdeal.Gen Idealize.ShloMosaic Idealize.ShloMosaic.TcCoe Idealize.SL.Sem

open Cert.Math in
theorem res_eq (m : (ℓ : Loc nD τ sig) → Buf (Elt Ideal) ℓ) (c : Dev nD) :
    res_out0 m c = dvSpec (R2 := 4096) (m (c.tc.loc main_arg0)) (m (c.tc.loc main_arg1)) (m (c.tc.loc main_arg2))
      (m (c.tc.loc main_arg3)) (m (c.tc.loc main_arg4)) rfl := by
  funext i
  obtain ⟨r, j, rfl⟩ : ∃ r j, i = ix2 r j := ⟨i 0, i 1, by funext a; match a with | ⟨0, _⟩ => rfl | ⟨1, _⟩ => rfl⟩
  simp only [dvSpec, codeAt, ← refNib_eq]
  pointwise [res_out0, res_main_v54, der, derS, refNib, id, Ideal.logistic]
  rfl

end Cert.DvDownRefIdeal.Value

end
-- ==== Proof.DvDownAlg.lean ====
/-
  THE GRADIENT at the rounding variables of the down projection, against the same gradient written plainly.
-/
module

public import proofs.«01_k».proof.Proof.DvDownVal
public import proofs.«01_k».proof.Proof.DvDownRef
public import proofs.«01_k».proof.Defs
public import Idealize.ShloMosaic.Lib.Claim

@[expose] public section

set_option maxRecDepth 16384

noncomputable section

namespace Cert.Proof

open Idealize.ShloMosaic Idealize.ShloMosaic.TcCoe Idealize.SL.Sem Cert.Math

theorem algebraic_dvDown : Cert.algebraic_DvDownIdeal_DvDownRefIdeal := by
  pair_intro
  · run_from Cert.DvDownIdeal.Gen.run_main m g
  · run_from Cert.DvDownRefIdeal.Value.run m' g'
    obtain ⟨e0, e1, e2, e3, e4⟩ := hagree c
    refine (Cert.DvDownRefIdeal.Value.res_eq m' c).trans ?_
    rw [e0, e1, e2, e3, e4, Cert.DvDownIdeal.Value.final m c]

end Cert.Proof

end
-- ==== Proof.DActVal.lean ====
/-
  THE CALL that carries the gradient back through the down projection and the gate.
-/
module

public import proofs.«01_k».proof.Proof.Spec
public import proofs.«01_k».proof.Proof.Gen.DActIdeal.Value
public import proofs.«01_k».proof.Proof.Gen.DActRefIdeal.Run

@[expose] public section

set_option maxRecDepth 16384

noncomputable section

namespace Cert.DActIdeal.Value

open Cert.DActIdeal Cert.DActIdeal.Gen Idealize.ShloMosaic Idealize.ShloMosaic.TcCoe Idealize.SL.Sem Cert.Math

variable (m : (ℓ : Loc nD τ sig) → Buf (Elt Ideal) ℓ)

/-- One block of the gradient at the gate. -/
theorem out5_eq (x0 : Vec Ideal S1024x3072 .bf16) (x1 : Vec Ideal S512x3072 .bf16) (x2 : Vec Ideal S1024x512 .f32) (x3 : Vec Ideal S1024x512 .f32)
    (x4 : Vec Ideal S1024x1 .f32) (q : Fin 1024) (j : Fin 512) : out0_5 x0 x1 x2 x3 x4 (ix2 q j) = dGateSpec x0 x1 x2 x3 x4 (ix2 q j) := by
  canon_tiles x h
  all_goals
    have hq : q.val = _ := h0
    have hj : j.val = _ := h1
    pointwise [dGateSpec, dActSpec, k0_pay17, k0_pay13, k0_pay7, k0_pay3, k0_pay11, k0_pay19]
    open_payloads
    pointwise
    blk_point []

/-- One block of the gradient at the up projection. -/
theorem out6_eq (x0 : Vec Ideal S1024x3072 .bf16) (x1 : Vec Ideal S512x3072 .bf16) (x2 : Vec Ideal S1024x512 .f32) (x3 : Vec Ideal S1024x512 .f32)
    (x4 : Vec Ideal S1024x1 .f32) (q : Fin 1024) (j : Fin 512) : out0_6 x0 x1 x2 x3 x4 (ix2 q j) = dUpSpec x0 x1 x2 x4 (ix2 q j) := by
  canon_tiles x h
  all_goals
    have hq : q.val = _ := h0
    have hj : j.val = _ := h1
    pointwise [dUpSpec, dActSpec, k0_pay18, k0_pay14, k0_pay8, k0_pay4, k0_pay12, k0_pay19]
    open_payloads
    pointwise
    blk_point []

/-- The windows' index maps, every point at once. -/
theorem idx : ∀ t : Fin cfg0.N, win0_0.index t = ![t.val / 16, 0] ∧ win0_1.index t = ![t.val % 16, 0] ∧ win0_2.index t = ![t.val / 16, t.val % 16]
    ∧ win0_3.index t = ![t.val / 16, t.val % 16] ∧ win0_4.index t = ![t.val / 16, 0] ∧ win0_5.index t = ![t.val / 16, t.val % 16]
    ∧ win0_6.index t = ![t.val / 16, t.val % 16] :=
  (by decide +kernel : ∀ t : Fin grid0.N, _)

theorem final5 (c : Dev nD) : (dats m 0 c).arrAt 5 (cfgs 0).N
    = dGateSpec (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  obtain ⟨q, j, rfl⟩ : ∃ q j, y = ix2 q j := ⟨y 0, y 1, by funext a; match a with | ⟨0, _⟩ => rfl | ⟨1, _⟩ => rfl⟩
  refine (out5_eq _ _ _ _ _ q j).trans ?_
  unfold dGateSpec dActSpec
  blk_point [iblk, V, idx t]

theorem final6 (c : Dev nD) : (dats m 0 c).arrAt 6 (cfgs 0).N
    = dUpSpec (m ((c : Thread nD τ).loc main_arg0)) (m ((c : Thread nD τ).loc main_arg1)) (m ((c : Thread nD τ).loc main_arg2))
        (m ((c : Thread nD τ).loc main_arg4)) := by
  refine (dats m 0 c).arrAt_eq_of_covers 6 _ (by decide +kernel) fun t _ y => ?_
  blk_simp
  rw [after0_6]
  obtain ⟨q, j, rfl⟩ : ∃ q j, y = ix2 q j := ⟨y 0, y 1, by funext a; match a with | ⟨0, _⟩ => rfl | ⟨1, _⟩ => rfl⟩
  refine (out6_eq _ _ _ _ _ q j).trans ?_
  unfold dUpSpec dActSpec
  blk_point [iblk, V, idx t]

end Cert.DActIdeal.Value

end
-- ==== Proof.DActAlg.lean ====
/-
  THE CALL that carries the gradient back through the gate, against the same step written plainly.
-/
module

public import proofs.«01_k».proof.Proof.DActVal
public import proofs.«01_k».proof.Proof.Gen.DActRefIdeal.Run
public import proofs.«01_k».proof.Defs
public import Idealize.ShloMosaic.Lib.Claim

@[expose] public section

set_option maxRecDepth 16384

noncomputable section

namespace Cert.Proof

open Idealize.ShloMosaic Idealize.ShloMosaic.TcCoe Idealize.SL.Sem Cert.Math

theorem algebraic_dAct : Cert.algebraic_DActIdeal_DActRefIdeal := by
  pair_intro
  · run_from Cert.DActIdeal.Gen.run_main m g
  · run_from Cert.DActRefIdeal.Value.run m' g'
    · rw [Cert.DActIdeal.Value.final5 m c]
      funext i
      obtain ⟨r, j, rfl⟩ : ∃ r j, i = ix2 r j := ⟨i 0, i 1, by funext a; match a with | ⟨0, _⟩ => rfl | ⟨1, _⟩ => rfl⟩
      pointwise [dGateSpec, dActSpec, Ideal.logistic, id]
    · rw [Cert.DActIdeal.Value.final6 m c]
      funext i
      obtain ⟨r, j, rfl⟩ : ∃ r j, i = ix2 r j := ⟨i 0, i 1, by funext a; match a with | ⟨0, _⟩ => rfl | ⟨1, _⟩ => rfl⟩
      pointwise [dUpSpec, dActSpec, Ideal.logistic, id]

end Cert.Proof

end
-- ==== Proof.GateUpFrame.lean ====
/-
  THE GATE AND UP PROJECTIONS' CALL RUNS at the machine's own floats: it terminates, faults nowhere and leaves its
  arguments and semaphore counters as they were. Nothing is said here of what its outputs hold.
-/
module

public import proofs.«01_k».proof.Proof.Gen.GateUp.Frame
public import proofs.«01_k».proof.Proof.Gen.GateUp.Skeleton
public import Idealize.ShloMosaic.Lib.Claim

@[expose] public section

-- membership in a rectangle of production extents (`View.cover_of_tiled`): the elaborator's structural look
-- recurses once per coordinate of the long axes
set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_GateUp`, Defs.lean, at any `F`). -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c))⟩) h

/-! ## The kernel body on any staging memrefs: a subtype the run finds -/

/-- Each window's current staging memref at point `t`, spelled as the pipeline passes it (`bodyAt0`), and its wholeness. -/
abbrev ms0_0 (t : Fin cfg0.N) : Memref sig .tc .vmem S512x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3072x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3072x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S6144x128 .f32 := win0_9.stage (cfg0.slots t 9)
abbrev hs0_9 (t : Fin cfg0.N) : (ms0_9 t).IsWhole := hstage0_9 ((cfg0.slots t 9).cast nbuf0_9)

-- (the run's proof term is large: checking it walks past the default budget)
set_option maxHeartbeats 1000000 in
/-- The body's triple: on whole staging memrefs — the inputs' at their contents,
    the FORGOTTEN outputs' (6, 7, 8, 9) at anything, handed back at some contents nothing names —
    the body runs to the continuation holding the inputs' as they were: the printed functions are their skeletons (`Gen.*_eq_skeleton`),
    which `sl_exec` runs (Lib/Exec.lean). -/
theorem kernelRun0_A (c : Dev nD) (i : grid0.Coords) (arg2 : Memref sig .tc .vmem S512x3072 .bf16) (harg2 : arg2.IsWhole) (arg3 : Memref sig .tc .vmem S512x1 .f32) (harg3 : arg3.IsWhole) (arg4 : Memref sig .tc .vmem S3072x1024 .bf16) (harg4 : arg4.IsWhole) (arg5 : Memref sig .tc .vmem S3072x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S6144x128 .f32) (harg11 : arg11.IsWhole)
    (x0 : Vec F S512x3072 .bf16) (x1 : Vec F S512x1 .f32) (x2 : Vec F S3072x1024 .bf16) (x3 : Vec F S3072x1024 .bf16) (x4 : Vec F S1x1024 .f32) (x5 : Vec F S1x1024 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K := by
    intro E K
    simp only [cc0_gate_up_eq_skeleton]; unfold cc0_gate_up_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    iexists _, _; isplitr; swap; · iexact H9
    ipureintro; rfl

/-! ## The pipeline's proof data -/

/-- The output windows this certificate FORGETS (6, 7, 8, 9): nothing reads what the kernel leaves in them, so nothing
    of it is named (Lib/Pipeline/Dat.lean `Dat.toRForget`). -/
def forgets0 : Fin 10 → Bool := fun w => w.val == 6 || w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_rel m ρ (fun c => (dats m 0 c).toRForget forgets0) (A_eq m) (run_main m ρ)

/-- THE FRAME: `Cert.quiescent_GateUp`'s statement (Defs.lean) at any `F` — Proof.lean cites it at `Bits`:
    `theorem Cert.Proof.claim : Cert.Claim := ⟨Cert.GateUp.Gen.facts, fun m ρ _ => Cert.GateUp.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.GateUp.Gen

end
-- ==== Proof.GateUpRun.lean ====
/-
  THE GATE AND UP PROJECTIONS' CALL, ONE GRID POINT: what the body leaves in each output buffer.
-/
module

public import proofs.«01_k».proof.Proof.Gen.GateUpIdeal.Frame
public import proofs.«01_k».proof.Proof.Gen.GateUpIdeal.Skeleton
public import Idealize.ShloMosaic.Lib.Claim
public import Idealize.ShloMosaic.Lib.WritesUnit
public import Idealize.ShloMosaic.Lib.Pipeline.ArrRel
public import Idealize.ShloMosaic.Lib.Pipeline.DatRel

@[expose] public section

-- membership in a rectangle of production extents (`View.cover_of_tiled`): the elaborator's structural look
-- recurses once per coordinate of the long axes
set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rLo : Rect S512x1024 := Rect.unit (s := S512x1024) ![0, 0] S256x1024.size inb_S512x1024_S256x1024_0_0
abbrev rHi : Rect S512x1024 := Rect.unit (s := S512x1024) ![256, 0] S256x1024.size inb_S512x1024_S256x1024_256_0
abbrev rX0 : Rect S512x3072 := Rect.unit (s := S512x3072) ![0, 0] S256x3072.size inb_S512x3072_S256x3072_0_0
abbrev rX1 : Rect S512x3072 := Rect.unit (s := S512x3072) ![256, 0] S256x3072.size inb_S512x3072_S256x3072_256_0
abbrev rS0 : Rect S512x1 := Rect.unit (s := S512x1) ![0, 0] S256x1.size inb_S512x1_S256x1_0_0
abbrev rS1 : Rect S512x1 := Rect.unit (s := S512x1) ![256, 0] S256x1.size inb_S512x1_S256x1_256_0
abbrev rW : Rect S3072x1024 := Rect.unit (s := S3072x1024) ![0, 0] S3072x1024.size inb_S3072x1024_S3072x1024_0_0
abbrev rG : Rect S1x1024 := Rect.unit (s := S1x1024) ![0, 0] S1x1024.size inb_S1x1024_S1x1024_0_0
/-- The rows of the running maxima that the first 256 rows of a tile touch, and the last 256. -/
abbrev rM0 (i : grid0.Coords) : Rect S6144x128 := Rect.unit (s := S6144x128) (k0_off1 i 0#32) S256x128.size (k0_off1_inb i 0)
abbrev rM1 (i : grid0.Coords) : Rect S6144x128 := Rect.unit (s := S6144x128) (k0_off1 i 256#32) S256x128.size (k0_off1_inb i 1)

/-- One tile of the gate, of the up projection and of their activation, each written as two pieces of 256 rows. -/
def gateOut (x0 : Vec F S512x3072 .bf16) (x1 : Vec F S512x1 .f32) (x2 : Vec F S3072x1024 .bf16) (x4 : Vec F S1x1024 .f32) : Vec F S512x1024 .f32 :=
  View.canon [⟨rHi, k0_pay9 (View.ld x4 rG) (View.ld x0 rX1) (View.ld x1 rS1) (View.ld x2 rW)⟩,
    ⟨rLo, k0_pay2 (View.ld x4 rG) (View.ld x0 rX0) (View.ld x1 rS0) (View.ld x2 rW)⟩]

def upOut (x0 : Vec F S512x3072 .bf16) (x1 : Vec F S512x1 .f32) (x3 : Vec F S3072x1024 .bf16) (x5 : Vec F S1x1024 .f32) : Vec F S512x1024 .f32 :=
  View.canon [⟨rHi, k0_pay10 (View.ld x5 rG) (View.ld x0 rX1) (View.ld x1 rS1) (View.ld x3 rW)⟩,
    ⟨rLo, k0_pay3 (View.ld x5 rG) (View.ld x0 rX0) (View.ld x1 rS0) (View.ld x3 rW)⟩]

def actOut (x0 : Vec F S512x3072 .bf16) (x1 : Vec F S512x1 .f32) (x2 x3 : Vec F S3072x1024 .bf16) (x4 x5 : Vec F S1x1024 .f32) : Vec F S512x1024 .f32 :=
  View.canon [⟨rHi, k0_pay11 (View.ld x4 rG) (View.ld x5 rG) (View.ld x0 rX1) (View.ld x1 rS1) (View.ld x2 rW) (View.ld x3 rW)⟩,
    ⟨rLo, k0_pay4 (View.ld x4 rG) (View.ld x5 rG) (View.ld x0 rX0) (View.ld x1 rS0) (View.ld x2 rW) (View.ld x3 rW)⟩]

/-- The two pieces tile the buffer. -/
theorem cover (p0 p1 : Vec F S256x1024 .f32) (y : S512x1024.Idx) :
    ∃ pc ∈ ([⟨rHi, p0⟩, ⟨rLo, p1⟩] : List (View.Piece (Elt F) S512x1024 .f32)), y ∈ pc.1.set :=
  View.cover_of_tiled [⟨rHi, p0⟩, ⟨rLo, p1⟩] S256x1024.size (by rfl) y

/-- What the first 256 rows' store of the running maxima writes, and the last 256's, from what the buffer held. -/
def max0 (i : grid0.Coords) (x0 : Vec F S512x3072 .bf16) (x1 : Vec F S512x1 .f32) (x2 x3 : Vec F S3072x1024 .bf16) (x4 x5 : Vec F S1x1024 .f32)
    (x9 : Vec F S256x128 .f32) : FVec F S256x128 .f32 :=
  k0_pay8 (BitVec.ofNat 32 (i 0).val)
    (k0_pay5 (View.ld x4 rG) (View.ld x5 rG) (View.ld x0 rX0) (View.ld x1 rS0) (View.ld x2 rW) (View.ld x3 rW))
    (k0_pay6 (View.ld x4 rG) (View.ld x5 rG) (View.ld x0 rX0) (View.ld x1 rS0) (View.ld x2 rW) (View.ld x3 rW))
    (k0_pay7 (View.ld x4 rG) (View.ld x5 rG) (View.ld x0 rX0) (View.ld x1 rS0) (View.ld x2 rW) (View.ld x3 rW)) x9

def max1 (i : grid0.Coords) (x0 : Vec F S512x3072 .bf16) (x1 : Vec F S512x1 .f32) (x2 x3 : Vec F S3072x1024 .bf16) (x4 x5 : Vec F S1x1024 .f32)
    (x9 : Vec F S256x128 .f32) : FVec F S256x128 .f32 :=
  k0_pay1 (BitVec.ofNat 32 (i 0).val)
    (k0_pay12 (View.ld x4 rG) (View.ld x5 rG) (View.ld x0 rX1) (View.ld x1 rS1) (View.ld x2 rW) (View.ld x3 rW)) x9

/-- What one grid point does to the running maxima: its tile's first 256 rows and last 256 rows are replaced, every other row is as it was. -/
def MaxStep (i : grid0.Coords) (x0 : Vec F S512x3072 .bf16) (x1 : Vec F S512x1 .f32) (x2 x3 : Vec F S3072x1024 .bf16) (x4 x5 : Vec F S1x1024 .f32)
    (x9 X : Vec F S6144x128 .f32) : Prop :=
  (∀ (y : S6144x128.Idx) (x : S256x128.Idx), (y 0).val = 512 * (i 1).val + (x 0).val → (y 1).val = (x 1).val →
      X y = max0 i x0 x1 x2 x3 x4 x5 (View.ld x9 (rM0 i)) x)
    ∧ (∀ (y : S6144x128.Idx) (x : S256x128.Idx), (y 0).val = 512 * (i 1).val + 256 + (x 0).val → (y 1).val = (x 1).val →
      X y = max1 i x0 x1 x2 x3 x4 x5 (View.ld x9 (rM1 i)) x)
    ∧ ∀ y : S6144x128.Idx, ((y 0).val < 512 * (i 1).val ∨ 512 * (i 1).val + 512 ≤ (y 0).val) → X y = x9 y

set_option maxHeartbeats 1000000 in
/-- The body on whole staging buffers: the three tiles are written whole, and the running maxima take one step. -/
theorem kernelRun (c : Dev nD) (i : grid0.Coords) (arg2 : Memref sig .tc .vmem S512x3072 .bf16) (harg2 : arg2.IsWhole) (arg3 : Memref sig .tc .vmem S512x1 .f32) (harg3 : arg3.IsWhole) (arg4 : Memref sig .tc .vmem S3072x1024 .bf16) (harg4 : arg4.IsWhole) (arg5 : Memref sig .tc .vmem S3072x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S6144x128 .f32) (harg11 : arg11.IsWhole)
    (x0 : Vec F S512x3072 .bf16) (x1 : Vec F S512x1 .f32) (x2 : Vec F S3072x1024 .bf16) (x3 : Vec F S3072x1024 .bf16) (x4 : Vec F S1x1024 .f32) (x5 : Vec F S1x1024 .f32) (x9 : Vec F S6144x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare x9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (gateOut x0 x1 x2 x4) ∗ owns (c : Thread nD τ) arg9 fullShare (upOut x0 x1 x3 x5) ∗ owns (c : Thread nD τ) arg10 fullShare (actOut x0 x1 x2 x3 x4 x5) ∗ (∃ X, ⌜MaxStep i x0 x1 x2 x3 x4 x5 x9 X⌝ ∗ owns (c : Thread nD τ) arg11 fullShare X)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K := by
    intro E K
    simp only [cc0_gate_up_eq_skeleton]; unfold cc0_gate_up_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, Hk⟩
    subst hf0 hf1 hf2 hf3 hf4 hf5 hf9
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr; swap; · iexact H6
      ipureintro
      exact (View.read_writes_eq_canon _ _ _ (cover _ _)).trans rfl
    isplitl [H7]
    · iexists _; isplitr; swap; · iexact H7
      ipureintro
      exact (View.read_writes_eq_canon _ _ _ (cover _ _)).trans rfl
    isplitl [H8]
    · iexists _; isplitr; swap; · iexact H8
      ipureintro
      exact (View.read_writes_eq_canon _ _ _ (cover _ _)).trans rfl
    iexists _; isplitr; swap
    · iexists _; isplitr; swap; · iexact H9
      ipureintro; rfl
    ipureintro
    have hlt : ∀ x : S256x128.Idx, (x 0).val < 256 := fun x => (x 0).isLt
    refine ⟨fun y x h0 h1 => ?_, fun y x h0 h1 => ?_, fun y h => ?_⟩
    · refine (View.read_writes_cons_unit_of_not_mem _ _ _ _ _ _ (k0_off1_eq i 1) 0 (.inl ?_)).trans ?_
      · show (y 0).val < 512 * (i 1).val + 256 * 1
        have := hlt x; omega
      refine (View.read_writes_cons_unit_of_mem _ _ _ _ _ _ x (k0_off1_eq i 0) ?_).trans rfl
      exact fun a => match a with
        | ⟨0, _⟩ => by show (y 0).val = 512 * (i 1).val + 256 * 0 + (x 0).val; omega
        | ⟨1, _⟩ => by show (y 1).val = 0 + (x 1).val; omega
    · refine (View.read_writes_cons_unit_of_mem _ _ _ _ _ _ x (k0_off1_eq i 1) ?_).trans rfl
      exact fun a => match a with
        | ⟨0, _⟩ => by show (y 0).val = 512 * (i 1).val + 256 * 1 + (x 0).val; omega
        | ⟨1, _⟩ => by show (y 1).val = 0 + (x 1).val; omega
    · refine (View.read_writes_cons_unit_of_not_mem _ _ _ _ _ _ (k0_off1_eq i 1) 0 ?_).trans ?_
      · show (y 0).val < 512 * (i 1).val + 256 * 1 ∨ 512 * (i 1).val + 256 * 1 + 256 ≤ (y 0).val
        omega
      refine (View.read_writes_cons_unit_of_not_mem _ _ _ _ _ _ (k0_off1_eq i 0) 0 ?_).trans ?_
      · show (y 0).val < 512 * (i 1).val + 256 * 0 ∨ 512 * (i 1).val + 256 * 0 + 256 ≤ (y 0).val
        omega
      rfl

end Cert.GateUpIdeal.Gen

end
-- ==== Proof.GateUpVal.lean ====
/-
  THE GATE AND UP PROJECTIONS: what they are, what the running lane maxima are, and one tile of each as the kernel computes it.
-/
module

public import proofs.«01_k».proof.Proof.Spec
public import proofs.«01_k».proof.Proof.GateUpRun
public import Idealize.ShloMosaic.Lib.Claim

@[expose] public section

set_option maxRecDepth 16384

noncomputable section

namespace Cert.Math

open Idealize.ShloMosaic

/-- A projection of the quantised activations: the product, times the row's scale and the column's. -/
def projSpec {T D N : ℕ} (x : FVec Ideal ⟨2, ![T, D]⟩ .bf16) (s : FVec Ideal ⟨2, ![T, 1]⟩ .f32) (w : FVec Ideal ⟨2, ![D, N]⟩ .bf16)
    (g : FVec Ideal ⟨2, ![1, N]⟩ .f32) (i : (⟨2, ![T, N]⟩ : Shape).Idx) : EReal :=
  (∑ k : Fin D, (x (ix2 (i 0) k) : EReal) * (w (ix2 k (i 1)) : EReal)) * ((s (ix2 (i 0) 0) : EReal) * (g (ix2 0 (i 1)) : EReal))

/-- The activation: the gate times its logistic, times the up projection. -/
def actSpec {T D N : ℕ} (x : FVec Ideal ⟨2, ![T, D]⟩ .bf16) (s : FVec Ideal ⟨2, ![T, 1]⟩ .f32) (wg wu : FVec Ideal ⟨2, ![D, N]⟩ .bf16)
    (sg su : FVec Ideal ⟨2, ![1, N]⟩ .f32) (i : (⟨2, ![T, N]⟩ : Shape).Idx) : EReal :=
  (projSpec x s wg sg i * Ideal.logistic (projSpec x s wg sg i)) * projSpec x s wu su i

/-- The magnitude of a matrix in row `r` and column `n`, −∞ outside it. -/
def magAt {T N : ℕ} (a : (⟨2, ![T, N]⟩ : Shape).Idx → EReal) (r n : ℕ) : EReal :=
  if h : r < T ∧ n < N then FloatOps.absf (F := Ideal) (φ := .f32) (a (ix2 ⟨r, h.1⟩ ⟨n, h.2⟩)) else ⊥

/-- The greatest magnitude in row `r` over the columns `l`, `128 + l`, … of the first `n` groups of 128 columns. -/
def laneMax {T N : ℕ} (a : (⟨2, ![T, N]⟩ : Shape).Idx → EReal) (n r l : ℕ) : EReal :=
  (Finset.range n).sup fun k => magAt a r (128 * k + l)

/-- Eight more groups of columns. -/
theorem laneMax_eight {T N : ℕ} (a : (⟨2, ![T, N]⟩ : Shape).Idx → EReal) (n r l : ℕ) :
    laneMax a (n + 8) r l = max (max (max (max (max (max (max (max (magAt a r (128 * n + l)) (magAt a r (128 * (n + 1) + l)))
      (magAt a r (128 * (n + 2) + l))) (magAt a r (128 * (n + 3) + l))) (magAt a r (128 * (n + 4) + l))) (magAt a r (128 * (n + 5) + l)))
      (magAt a r (128 * (n + 6) + l))) (magAt a r (128 * (n + 7) + l))) (laneMax a n r l) := by
  unfold laneMax
  simp only [Finset.range_add_one, Finset.sup_insert]
  simp only [max_comm, max_left_comm, max_assoc]

end Cert.Math

namespace Cert.GateUpIdeal.Gen

open Cert.GateUpIdeal Idealize.ShloMosaic Idealize.ShloMosaic.TcCoe Idealize.SL.Sem Cert.Math

variable (x0 : Vec Ideal S512x3072 .bf16) (x1 : Vec Ideal S512x1 .f32) (x2 x3 : Vec Ideal S3072x1024 .bf16) (x4 x5 : Vec Ideal S1x1024 .f32)

/-- The first 256 rows of one tile of a projection, and the last 256. -/
theorem proj_lo (x : S256x1024.Idx) (q : Fin 512) (j : Fin 1024) (hq : q.val = (x 0).val) (hj : j.val = (x 1).val) :
    k0_pay2 (View.ld x4 rG) (View.ld x0 rX0) (View.ld x1 rS0) (View.ld x2 rW) x = projSpec x0 x1 x2 x4 (ix2 q j) := by
  pointwise [projSpec, k0_pay2]
  blk_point []

theorem proj_hi (x : S256x1024.Idx) (q : Fin 512) (j : Fin 1024) (hq : q.val = 256 + (x 0).val) (hj : j.val = (x 1).val) :
    k0_pay9 (View.ld x4 rG) (View.ld x0 rX1) (View.ld x1 rS1) (View.ld x2 rW) x = projSpec x0 x1 x2 x4 (ix2 q j) := by
  pointwise [projSpec, k0_pay9]
  blk_point []

theorem pay3_eq : k0_pay3 (F := Ideal) = k0_pay2 := rfl
theorem pay10_eq : k0_pay10 (F := Ideal) = k0_pay9 := rfl

theorem act_lo (x : S256x1024.Idx) (q : Fin 512) (j : Fin 1024) (hq : q.val = (x 0).val) (hj : j.val = (x 1).val) :
    k0_pay4 (View.ld x4 rG) (View.ld x5 rG) (View.ld x0 rX0) (View.ld x1 rS0) (View.ld x2 rW) (View.ld x3 rW) x = actSpec x0 x1 x2 x3 x4 x5 (ix2 q j) := by
  unfold actSpec
  rw [← proj_lo x0 x1 x2 x4 x q j hq hj, ← proj_lo x0 x1 x3 x5 x q j hq hj]
  rfl

theorem act_hi (x : S256x1024.Idx) (q : Fin 512) (j : Fin 1024) (hq : q.val = 256 + (x 0).val) (hj : j.val = (x 1).val) :
    k0_pay11 (View.ld x4 rG) (View.ld x5 rG) (View.ld x0 rX1) (View.ld x1 rS1) (View.ld x2 rW) (View.ld x3 rW) x = actSpec x0 x1 x2 x3 x4 x5 (ix2 q j) := by
  unfold actSpec
  rw [← proj_hi x0 x1 x2 x4 x q j hq hj, ← proj_hi x0 x1 x3 x5 x q j hq hj]
  rfl

/-- One tile of the gate, of the up projection and of the activation. -/
theorem gateOut_eq (q : Fin 512) (j : Fin 1024) : gateOut x0 x1 x2 x4 (ix2 q j) = projSpec x0 x1 x2 x4 (ix2 q j) := by
  unfold gateOut
  canon_tiles x h
  · exact proj_hi x0 x1 x2 x4 x q j h0 h1
  · exact proj_lo x0 x1 x2 x4 x q j h0 h1

theorem upOut_eq (q : Fin 512) (j : Fin 1024) : upOut x0 x1 x3 x5 (ix2 q j) = projSpec x0 x1 x3 x5 (ix2 q j) := by
  unfold upOut
  canon_tiles x h
  · exact proj_hi x0 x1 x3 x5 x q j h0 h1
  · exact proj_lo x0 x1 x3 x5 x q j h0 h1

theorem actOut_eq (q : Fin 512) (j : Fin 1024) : actOut x0 x1 x2 x3 x4 x5 (ix2 q j) = actSpec x0 x1 x2 x3 x4 x5 (ix2 q j) := by
  unfold actOut
  canon_tiles x h
  · exact act_hi x0 x1 x2 x3 x4 x5 x q j h0 h1
  · exact act_lo x0 x1 x2 x3 x4 x5 x q j h0 h1

/-- The lane-wise maximum of the eight groups of a block of magnitudes, with what was there before unless it is the first. -/
theorem max_apply (b : BitVec 32) (v : FVec Ideal S256x1024 .f32) (y : Vec Ideal S256x128 .f32) (x : S256x128.Idx) (f : ℕ → EReal)
    (hf : ∀ k : Fin 8, f k.val = v (ix2 (x 0) ⟨128 * k.val + (x 1).val, by have : (x 1).val < 128 := (x 1).isLt; omega⟩)) :
    k0_pay1 b v y x = if b = 0#32 then max (max (max (max (max (max (max (f 0) (f 1)) (f 2)) (f 3)) (f 4)) (f 5)) (f 6)) (f 7)
      else max (max (max (max (max (max (max (max (f 0) (f 1)) (f 2)) (f 3)) (f 4)) (f 5)) (f 6)) (f 7)) (y x) := by
  rw [show f 0 = _ from hf 0, show f 1 = _ from hf 1, show f 2 = _ from hf 2, show f 3 = _ from hf 3, show f 4 = _ from hf 4,
    show f 5 = _ from hf 5, show f 6 = _ from hf 6, show f 7 = _ from hf 7]
  have hc : Scalar.cmpi CmpIPredicate.eq b 0#32 = if b = 0#32 then 1#1 else 0#1 := by
    by_cases h : b = 0#32 <;> simp [Scalar.cmpi, IntOp.cmpi, h, beq_eq_false_iff_ne.mpr]
  split
  · rename_i h
    rw [if_pos h] at hc
    pointwise [k0_pay1]
    blk_point []
    simp [hc, Scalar.select]
  · rename_i h
    rw [if_neg h] at hc
    pointwise [k0_pay1]
    blk_point []
    simp [hc, Scalar.select]

theorem pay8_eq (b : BitVec 32) (v4 v5 : Vec Ideal S1x1024 .f32) (x : Vec Ideal S256x3072 .bf16) (s : Vec Ideal S256x1 .f32) (v2 v3 : Vec Ideal S3072x1024 .bf16)
    (y : Vec Ideal S256x128 .f32) :
    k0_pay8 b (k0_pay5 v4 v5 x s v2 v3) (k0_pay6 v4 v5 x s v2 v3) (k0_pay7 v4 v5 x s v2 v3) y = k0_pay1 b (k0_pay5 v4 v5 x s v2 v3) y := rfl

/-- One grid point's tile of the running maxima, in terms of the whole activation `A`: with the groups of columns before it taken in
    (nothing is asked where there are none), the point takes in its own eight. -/
theorem step_eq (i : grid0.Coords) (x9 X : Vec Ideal S6144x128 .f32) (A : S6144x8192.Idx → EReal) (hi0 : (i 0).val < 8) (hi1 : (i 1).val < 12)
    (hA : ∀ (q : Fin 512) (j : Fin 1024), actSpec x0 x1 x2 x3 x4 x5 (ix2 q j)
      = A (ix2 (⟨512 * (i 1).val + q.val, by omega⟩ : Fin 6144) (⟨1024 * (i 0).val + j.val, by omega⟩ : Fin 8192)))
    (h : MaxStep i x0 x1 x2 x3 x4 x5 x9 X) (r : Fin 6144) (l : Fin 128) (hr : 512 * (i 1).val ≤ r.val) (hr' : r.val < 512 * (i 1).val + 512)
    (hold : (i 0).val ≠ 0 → x9 (ix2 r l) = laneMax A (8 * (i 0).val) r.val l.val) :
    X (ix2 r l) = laneMax A (8 * (i 0).val + 8) r.val l.val := by
  have hb : (BitVec.ofNat 32 (i 0).val = 0#32) ↔ (i 0).val = 0 := by
    constructor
    · intro e
      have := congrArg BitVec.toNat e
      simp only [BitVec.toNat_ofNat] at this
      omega
    · intro e; rw [e]
  -- the tile's magnitudes are the whole activation's
  have hm : ∀ (n : ℕ) (hn : n < 1024) (q : Fin 512), r.val = 512 * (i 1).val + q.val →
      magAt A r.val (1024 * (i 0).val + n) = FloatOps.absf (F := Ideal) (φ := .f32) (actSpec x0 x1 x2 x3 x4 x5 (ix2 q ⟨n, hn⟩)) := by
    intro n hn q hq
    unfold magAt
    rw [dif_pos ⟨r.isLt, by omega⟩, hA]
    congr 2
    exact congrArg₂ ix2 (Fin.ext hq) rfl
  have key : ∀ (v : FVec Ideal S256x1024 .f32) (y : Vec Ideal S256x128 .f32) (x : S256x128.Idx) (hl : l.val = (x 1).val)
      (hv : ∀ k : Fin 8, magAt A r.val (128 * (8 * (i 0).val + k.val) + l.val)
        = v (ix2 (x 0) ⟨128 * k.val + (x 1).val, by have : (x 1).val < 128 := (x 1).isLt; omega⟩))
      (hy : y x = x9 (ix2 r l)),
      k0_pay1 (BitVec.ofNat 32 (i 0).val) v y x = laneMax A (8 * (i 0).val + 8) r.val l.val := by
    intro v y x hl hv hy
    rw [max_apply _ v y x (fun k => magAt A r.val (128 * (8 * (i 0).val + k) + l.val)) hv, laneMax_eight, hy]
    split
    · rename_i h0
      rw [hb] at h0
      rw [h0]
      unfold laneMax
      simp
    · rename_i h0
      rw [hb] at h0
      rw [hold h0]
      rfl
  obtain ⟨hlo, hhi, -⟩ := h
  by_cases hq : r.val < 512 * (i 1).val + 256
  · let x : S256x128.Idx := ix2 (⟨r.val - 512 * (i 1).val, by omega⟩ : Fin 256) l
    rw [hlo (ix2 r l) x (show r.val = 512 * (i 1).val + (r.val - 512 * (i 1).val) by omega) rfl]
    unfold max0
    rw [pay8_eq]
    refine key _ _ x rfl (fun k => ?_) ?_
    · rw [show 128 * (8 * (i 0).val + k.val) + l.val = 1024 * (i 0).val + (128 * k.val + l.val) by ring,
        hm _ (by omega) ⟨r.val - 512 * (i 1).val, by omega⟩ (show r.val = 512 * (i 1).val + (r.val - 512 * (i 1).val) by omega)]
      exact congrArg (FloatOps.absf (F := Ideal) (φ := .f32)) (act_lo x0 x1 x2 x3 x4 x5
        (ix2 (⟨r.val - 512 * (i 1).val, by omega⟩ : Fin 256) (⟨128 * k.val + l.val, by omega⟩ : Fin 1024))
        ⟨r.val - 512 * (i 1).val, by omega⟩ ⟨128 * k.val + l.val, by omega⟩ rfl rfl).symm
    · show x9 ((rM0 i).idx x) = _
      congr 1
      have e := k0_off1_eq i 0
      funext a
      apply Fin.ext
      match a with
      | ⟨0, _⟩ =>
        refine (Rect.idx_unit_val (s := S6144x128) (k0_off1 i 0#32) S256x128.size (k0_off1_inb i 0) x 0).trans ?_
        show k0_off1 i 0#32 0 + (r.val - 512 * (i 1).val) = r.val
        rw [show k0_off1 i 0#32 0 = 512 * (i 1).val + 256 * 0 from congrFun e 0]; omega
      | ⟨1, _⟩ =>
        refine (Rect.idx_unit_val (s := S6144x128) (k0_off1 i 0#32) S256x128.size (k0_off1_inb i 0) x 1).trans ?_
        show k0_off1 i 0#32 1 + l.val = l.val
        rw [show k0_off1 i 0#32 1 = 0 from congrFun e 1]; omega
  · let x : S256x128.Idx := ix2 (⟨r.val - (512 * (i 1).val + 256), by omega⟩ : Fin 256) l
    rw [hhi (ix2 r l) x (show r.val = 512 * (i 1).val + 256 + (r.val - (512 * (i 1).val + 256)) by omega) rfl]
    unfold max1
    refine key _ _ x rfl (fun k => ?_) ?_
    · rw [show 128 * (8 * (i 0).val + k.val) + l.val = 1024 * (i 0).val + (128 * k.val + l.val) by ring,
        hm _ (by omega) ⟨r.val - 512 * (i 1).val, by omega⟩ (show r.val = 512 * (i 1).val + (r.val - 512 * (i 1).val) by omega)]
      exact congrArg (FloatOps.absf (F := Ideal) (φ := .f32)) (act_hi x0 x1 x2 x3 x4 x5
        (ix2 (⟨r.val - (512 * (i 1).val + 256), by omega⟩ : Fin 256) (⟨128 * k.val + l.val, by omega⟩ : Fin 1024))
        ⟨r.val - 512 * (i 1).val, by omega⟩ ⟨128 * k.val + l.val, by omega⟩
        (show r.val - 512 * (i 1).val = 256 + (r.val - (512 * (i 1).val + 256)) by omega) rfl).symm
    · show x9 ((rM1 i).idx x) = _
      congr 1
      have e := k0_off1_eq i 1
      funext a
      apply Fin.ext
      match a with
      | ⟨0, _⟩ =>
        refine (Rect.idx_unit_val (s := S6144x128) (k0_off1 i 256#32) S256x128.size (k0_off1_inb i 1) x 0).trans ?_
        show k0_off1 i 256#32 0 + (r.val - (512 * (i 1).val + 256)) = r.val
        rw [show k0_off1 i 256#32 0 = 512 * (i 1).val + 256 * 1 from congrFun e 0]; omega
      | ⟨1, _⟩ =>
        refine (Rect.idx_unit_val (s := S6144x128) (k0_off1 i 256#32) S256x128.size (k0_off1_inb i 1) x 1).trans ?_
        show k0_off1 i 256#32 1 + l.val = l.val
        rw [show k0_off1 i 256#32 1 = 0 from congrFun e 1]; omega

end Cert.GateUpIdeal.Gen

end
-- ==== Proof.GateUpPoint.lean ====
/-
  THE GATE AND UP PROJECTIONS' CALL over the extended reals: it runs, and at the end each result holds what it should: the gate, the up
  projection, the activation, and the greatest magnitude of the activation in each row over the columns equal modulo 128.
-/
module

public import proofs.«01_k».proof.Proof.GateUpVal
public import proofs.«01_k».proof.Proof.Gen.GateUpIdeal.Launch
public import proofs.«01_k».proof.Proof.Gen.GateUpIdeal.Points

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationRel cellOf)
open Cert.Math

local notation "𝕄" => MT nD τ sig Unit (Elt Ideal) ℕ (UR sig nD τ) ℕ

variable (m : (ℓ : Loc nD τ sig) → Buf (Elt Ideal) ℓ) (ρ : Dev nD → PrngReg)

/-! ## What each result holds at the end -/

def gateM (c : Dev nD) : S6144x8192.Idx → EReal :=
  projSpec (m ((c : Thread nD τ).loc main_arg0)) (m ((c : Thread nD τ).loc main_arg1)) (m ((c : Thread nD τ).loc main_arg2)) (m ((c : Thread nD τ).loc main_arg4))

def upM (c : Dev nD) : S6144x8192.Idx → EReal :=
  projSpec (m ((c : Thread nD τ).loc main_arg0)) (m ((c : Thread nD τ).loc main_arg1)) (m ((c : Thread nD τ).loc main_arg3)) (m ((c : Thread nD τ).loc main_arg5))

def actM (c : Dev nD) : S6144x8192.Idx → EReal :=
  actSpec (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

/-! ## The grid -/

theorem coords_eq : ∀ t : Fin cfg0.N, (grid0.coords t 0).val = t.val / 12 ∧ (grid0.coords t 1).val = t.val % 12 :=
  (by decide +kernel : ∀ t : Fin grid0.N, _)

/-- The windows' index maps, every point at once. -/
theorem idx : ∀ t : Fin cfg0.N, win0_0.index t = ![t.val % 12, 0] ∧ win0_1.index t = ![t.val % 12, 0] ∧ win0_2.index t = ![0, t.val / 12]
    ∧ win0_3.index t = ![0, t.val / 12] ∧ win0_4.index t = ![0, t.val / 12] ∧ win0_5.index t = ![0, t.val / 12]
    ∧ win0_6.index t = ![t.val % 12, t.val / 12] ∧ win0_7.index t = ![t.val % 12, t.val / 12] ∧ win0_8.index t = ![t.val % 12, t.val / 12]
    ∧ win0_9.index t = ![0, 0] :=
  (by decide +kernel : ∀ t : Fin grid0.N, _)

theorem lt_N (t : Fin cfg0.N) : t.val < 96 := t.isLt

/-- Row and column of a tile's element in the whole array. -/
def row (t : Fin cfg0.N) (q : Fin 512) : Fin 6144 := ⟨512 * (t.val % 12) + q.val, by omega⟩
def col (t : Fin cfg0.N) (j : Fin 1024) : Fin 8192 := ⟨1024 * (t.val / 12) + j.val, by have := lt_N t; omega⟩

/-- A tile of each projection and of the activation, computed from the point's blocks, is that tile of the whole. -/
theorem gate_blk (c : Dev nD) (t : Fin cfg0.N) (q : Fin 512) (j : Fin 1024) :
    projSpec (iblk m c 0 t : Vec Ideal S512x3072 .bf16) (iblk m c 1 t : Vec Ideal S512x1 .f32) (iblk m c 2 t : Vec Ideal S3072x1024 .bf16) (iblk m c 4 t : Vec Ideal S1x1024 .f32) (ix2 q j)
      = gateM m c (ix2 (row t q) (col t j)) := by
  unfold gateM projSpec row col
  blk_point [iblk, V, idx t]

theorem up_blk (c : Dev nD) (t : Fin cfg0.N) (q : Fin 512) (j : Fin 1024) :
    projSpec (iblk m c 0 t : Vec Ideal S512x3072 .bf16) (iblk m c 1 t : Vec Ideal S512x1 .f32) (iblk m c 3 t : Vec Ideal S3072x1024 .bf16) (iblk m c 5 t : Vec Ideal S1x1024 .f32) (ix2 q j)
      = upM m c (ix2 (row t q) (col t j)) := by
  unfold upM projSpec row col
  blk_point [iblk, V, idx t]

theorem act_blk (c : Dev nD) (t : Fin cfg0.N) (q : Fin 512) (j : Fin 1024) :
    actSpec (iblk m c 0 t : Vec Ideal S512x3072 .bf16) (iblk m c 1 t : Vec Ideal S512x1 .f32) (iblk m c 2 t : Vec Ideal S3072x1024 .bf16) (iblk m c 3 t : Vec Ideal S3072x1024 .bf16)
        (iblk m c 4 t : Vec Ideal S1x1024 .f32) (iblk m c 5 t : Vec Ideal S1x1024 .f32) (ix2 q j)
      = actM m c (ix2 (row t q) (col t j)) := by
  unfold actSpec actM
  rw [gate_blk, up_blk]
  rfl

/-! ## The kernel body on any staging memrefs -/

/-- Each window's current staging memref at point `t`, spelled as the pipeline passes it (`bodyAt0`), and its wholeness. -/
abbrev ms0_0 (t : Fin cfg0.N) : Memref sig .tc .vmem S512x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3072x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3072x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S6144x128 .f32 := win0_9.stage (cfg0.slots t 9)
abbrev hs0_9 (t : Fin cfg0.N) : (ms0_9 t).IsWhole := hstage0_9 ((cfg0.slots t 9).cast nbuf0_9)

/-! ## The pipeline's proof data -/

/-- The proof data: after the body each input's buffer holds its block. The outputs are held to `Rl` below. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The windows held to a predicate: the outputs. -/
def marks : Fin 10 → Bool := fun w => w.val == 6 || w.val == 7 || w.val == 8 || w.val == 9

/-- The running maxima after point `t`: the tiles of rows that the sweep has passed hold its eight groups of columns as well, the
    others (once there has been a sweep) those of the sweeps before. -/
def MaxAt (c : Dev nD) (t : Fin cfg0.N) (X : Vec Ideal S6144x128 .f32) : Prop :=
  ∀ (r : Fin 6144) (l : Fin 128),
    (r.val < 512 * (t.val % 12) + 512 → X (ix2 r l) = laneMax (actM m c) (8 * (t.val / 12) + 8) r.val l.val)
    ∧ (512 * (t.val % 12) + 512 ≤ r.val → t.val / 12 ≠ 0 → X (ix2 r l) = laneMax (actM m c) (8 * (t.val / 12)) r.val l.val)

/-- What the body leaves in each output's buffer at point `t`. -/
def Rl (c : Dev nD) (w : Fin cfg0.W) (t : Fin cfg0.N) (X : (cfg0.win w).block.Idx → Elt Ideal (cfg0.win w).elt) : Prop :=
  match w, X with
  | ⟨6, _⟩, X => ∀ (q : Fin 512) (j : Fin 1024), (X : Vec Ideal S512x1024 .f32) (ix2 q j) = gateM m c (ix2 (row t q) (col t j))
  | ⟨7, _⟩, X => ∀ (q : Fin 512) (j : Fin 1024), (X : Vec Ideal S512x1024 .f32) (ix2 q j) = upM m c (ix2 (row t q) (col t j))
  | ⟨8, _⟩, X => ∀ (q : Fin 512) (j : Fin 1024), (X : Vec Ideal S512x1024 .f32) (ix2 q j) = actM m c (ix2 (row t q) (col t j))
  | ⟨9, _⟩, X => MaxAt m c t X
  | _, _ => True

/-- The relational data: the exact data with the outputs held to `Rl`. -/
abbrev rdats (c : Dev nD) := (dats m 0 c).toRRel marks (Rl m c)

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The running maxima take one step -/

theorem fetch9 : ∀ t : Fin cfg0.N, (cfg0.win 9).fetch t = false := fun _ => rfl

/-- What the body finds in the running maxima's buffer: after the first point, what the point before left. -/
theorem found (c : Dev nD) (t : Fin cfg0.N) (ht : t.val ≠ 0) (Y : Vec Ideal S6144x128 .f32) (h : (rdats m c).Finds 9 t Y) :
    MaxAt m c ⟨t.val - 1, Nat.lt_of_le_of_lt (Nat.sub_le _ _) t.isLt⟩ Y := by
  rcases ((rdats m c).finds_of_pos (fetch9 t) ht Y).mp h with hfl | hL
  · have := (flush0_9 _).mp hfl
    have := lt_N t
    simp only at *
    omega
  · exact (dats m 0 c).toRRel_leaves rfl hL

theorem max_step (c : Dev nD) (t : Fin cfg0.N) (Y X : Vec Ideal S6144x128 .f32) (h : (rdats m c).Finds 9 t Y)
    (hs : MaxStep (grid0.coords t) (iblk m c 0 t) (iblk m c 1 t) (iblk m c 2 t) (iblk m c 3 t) (iblk m c 4 t) (iblk m c 5 t) Y X) :
    MaxAt m c t X := by
  have hN := lt_N t
  have h0 := (coords_eq t).1
  have h1 := (coords_eq t).2
  have hf := found m c t
  intro r l
  -- the rows of this tile and of the tiles after it before the point, those of the tiles passed
  have hY : t.val / 12 ≠ 0 → 512 * (t.val % 12) ≤ r.val → Y (ix2 r l) = laneMax (actM m c) (8 * (t.val / 12)) r.val l.val := by
    intro hp hr
    have hM := hf (by omega) Y h r l
    simp only at hM
    by_cases hz : t.val % 12 = 0
    · have e1 : (t.val - 1) % 12 = 11 := by omega
      have e2 : (t.val - 1) / 12 = t.val / 12 - 1 := by omega
      have := hM.1 (by have := r.isLt; omega)
      rw [this, e2]
      congr 1; omega
    · have e1 : (t.val - 1) % 12 = t.val % 12 - 1 := by omega
      have e2 : (t.val - 1) / 12 = t.val / 12 := by omega
      have := hM.2 (by omega) (by omega)
      rw [this, e2]
  refine ⟨fun hr => ?_, fun hr hp => ?_⟩
  · by_cases hq : 512 * (t.val % 12) ≤ r.val
    · have := step_eq (iblk m c 0 t) (iblk m c 1 t) (iblk m c 2 t) (iblk m c 3 t) (iblk m c 4 t) (iblk m c 5 t) (grid0.coords t) Y X (actM m c)
        (by omega) (by omega)
        (fun q j => (act_blk m c t q j).trans (by
          unfold row col
          congr 2 <;> exact Fin.ext (by simp only [h0, h1])))
        hs r l (by omega) (by omega) (fun hp => by rw [h0] at hp ⊢; exact hY hp hq)
      rw [this, h0]
    · have e : X (ix2 r l) = Y (ix2 r l) := hs.2.2 (ix2 r l) (Or.inl (show r.val < 512 * (grid0.coords t 1).val by omega))
      rw [e]
      have hM := hf (by omega) Y h r l
      simp only at hM
      have e1 : (t.val - 1) % 12 = t.val % 12 - 1 := by omega
      have e2 : (t.val - 1) / 12 = t.val / 12 := by omega
      rw [hM.1 (by omega), e2]
  · have e : X (ix2 r l) = Y (ix2 r l) := hs.2.2 (ix2 r l) (Or.inr (show 512 * (grid0.coords t 1).val + 512 ≤ r.val by omega))
    rw [e]
    exact hY hp (by omega)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_GateUpIdeal`, Defs.lean). -/
theorem frame_of_rel (rdat : (c : Dev nD) → Pipeline.RDat τ (Elt Ideal) Unit ℕ (UR sig nD τ) ℕ (cfgs 0) c)
    (hA : ∀ c w, (rdat c).A w = V m c (Pipeline.arrRef spec0 w))
    (h : θ_run defs (onTc (τ := τ) (main (F := Ideal))) (s₀ m ρ) (Pipeline.RDat.FramePost (cfgs 0) rdat (V m))) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c))⟩) h

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y, ⌜(rdats m c).Finds 6 t Y⌝ ∗ owns (c : Thread nD τ) (ms0_6 t) fullShare Y)
    ∗ (∃ Y, ⌜(rdats m c).Finds 7 t Y⌝ ∗ owns (c : Thread nD τ) (ms0_7 t) fullShare Y)
    ∗ (∃ Y, ⌜(rdats m c).Finds 8 t Y⌝ ∗ owns (c : Thread nD τ) (ms0_8 t) fullShare Y)
    ∗ (∃ Y, ⌜(rdats m c).Finds 9 t Y⌝ ∗ owns (c : Thread nD τ) (ms0_9 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X, ⌜Rl m c 6 t X⌝ ∗ owns (c : Thread nD τ) (ms0_6 t) fullShare X)
    ∗ (∃ X, ⌜Rl m c 7 t X⌝ ∗ owns (c : Thread nD τ) (ms0_7 t) fullShare X)
    ∗ (∃ X, ⌜Rl m c 8 t X⌝ ∗ owns (c : Thread nD τ) (ms0_8 t) fullShare X)
    ∗ (∃ X, ⌜Rl m c 9 t X⌝ ∗ owns (c : Thread nD τ) (ms0_9 t) fullShare X))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩, ⟨%Y6, -, H6⟩, ⟨%Y7, -, H7⟩, ⟨%Y8, -, H8⟩, ⟨%Y9, %hY, H9⟩⟩
  iapply ((kernelRun c (grid0.coords t) _ _ _ _ _ _ _ _ _ _ _ _ _ _ _ _ _ _ _ _ (iblk m c 0 t) (iblk m c 1 t) (iblk m c 2 t) (iblk m c 3 t) (iblk m c 4 t) (iblk m c 5 t) Y9) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexact H9
  iintro ⟨H0, H1, H2, H3, H4, H5, H6, H7, H8, ⟨%X9, %hX, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; · iexact H6
    ipureintro
    exact fun q j => (gateOut_eq _ _ _ _ q j).trans (gate_blk m c t q j)
  isplitl [H7]
  · iexists _; isplitr; swap; · iexact H7
    ipureintro
    exact fun q j => (upOut_eq _ _ _ _ q j).trans (up_blk m c t q j)
  isplitl [H8]
  · iexists _; isplitr; swap; · iexact H8
    ipureintro
    exact fun q j => (actOut_eq _ _ _ _ _ _ q j).trans (act_blk m c t q j)
  iexists _; isplitr; swap; · iexact H9
  ipureintro
  exact max_step m c t Y9 X9 hY hX

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligationRel (dats m 0 c) (defs₀ (F := Ideal)) Variants.none () Set.univ marks (Rl m c) := fun t => by
  rw [bigSep_W0, bigSep_W0, defs₀_row]
  exact triple_restated (sound_body m c t) rfl .rfl fun _ => .rfl

/-! ## The run and the frame -/

set_option backward.isDefEq.respectTransparency.types false in
/-- The launch: every array ends at something the relational data allow, and every semaphore counter at zero. -/
theorem run_main_quiescent : θ_run defs (onTc (τ := τ) (main (F := Ideal))) (s₀ m ρ) (fun r => (Pipeline.RDat.FramePost (cfgs 0) (rdats m) (V m)) r ∧ r.2.sem = fun _ => 0) :=
  Pipeline.RDat.θ_run_frame (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

theorem run_rel : θ_run defs (onTc (τ := τ) (main (F := Ideal))) (s₀ m ρ) (Pipeline.RDat.FramePost (cfgs 0) (rdats m) (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_rel m ρ (rdats m) (A_eq m) (run_rel m ρ)

/-- The frame: the argument arrays end unchanged, and every semaphore counter is back at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

/-! ## The arrays at the end -/

section
variable {m}
variable {c : Dev nD} {after : (w : Fin cfg0.W) → Fin cfg0.N → (cfg0.win w).block.Idx → Elt Ideal (cfg0.win w).elt}

theorem final6 (h : ∀ t, (cfg0.win 6).flush t = true → Rl m c 6 t (after 6 t)) : ((rdats m c).withAfter after).arrAt 6 cfg0.N = gateM m c := by
  refine ((rdats m c).withAfter after).arrAt_eq_of_covers 6 _ (by decide +kernel) fun t hf y => ?_
  blk_simp
  obtain ⟨q, j, rfl⟩ : ∃ q j, y = ix2 q j := ⟨y 0, y 1, by funext a; match a with | ⟨0, _⟩ => rfl | ⟨1, _⟩ => rfl⟩
  refine (h t hf q j).trans ?_
  unfold row col
  blk_point [idx t]

theorem final7 (h : ∀ t, (cfg0.win 7).flush t = true → Rl m c 7 t (after 7 t)) : ((rdats m c).withAfter after).arrAt 7 cfg0.N = upM m c := by
  refine ((rdats m c).withAfter after).arrAt_eq_of_covers 7 _ (by decide +kernel) fun t hf y => ?_
  blk_simp
  obtain ⟨q, j, rfl⟩ : ∃ q j, y = ix2 q j := ⟨y 0, y 1, by funext a; match a with | ⟨0, _⟩ => rfl | ⟨1, _⟩ => rfl⟩
  refine (h t hf q j).trans ?_
  unfold row col
  blk_point [idx t]

theorem final8 (h : ∀ t, (cfg0.win 8).flush t = true → Rl m c 8 t (after 8 t)) : ((rdats m c).withAfter after).arrAt 8 cfg0.N = actM m c := by
  refine ((rdats m c).withAfter after).arrAt_eq_of_covers 8 _ (by decide +kernel) fun t hf y => ?_
  blk_simp
  obtain ⟨q, j, rfl⟩ : ∃ q j, y = ix2 q j := ⟨y 0, y 1, by funext a; match a with | ⟨0, _⟩ => rfl | ⟨1, _⟩ => rfl⟩
  refine (h t hf q j).trans ?_
  unfold row col
  blk_point [idx t]

/-- The greatest magnitude of the activation in a row over the columns equal to `l` modulo 128. -/
def maxM (m : (ℓ : Loc nD τ sig) → Buf (Elt Ideal) ℓ) (c : Dev nD) : S6144x128.Idx → EReal := fun i => laneMax (actM m c) 64 (i 0).val (i 1).val

theorem final9 (h : ∀ t, (cfg0.win 9).flush t = true → Rl m c 9 t (after 9 t)) : ((rdats m c).withAfter after).arrAt 9 cfg0.N = maxM m c := by
  refine ((rdats m c).withAfter after).arrAt_eq_of_covers 9 _ (by decide +kernel) fun t hf y => ?_
  blk_simp
  obtain ⟨q, j, rfl⟩ : ∃ q j, y = ix2 q j := ⟨y 0, y 1, by funext a; match a with | ⟨0, _⟩ => rfl | ⟨1, _⟩ => rfl⟩
  have ht := (flush0_9 t).mp hf
  have hN := lt_N t
  have e := (h t hf : MaxAt m c t _) q j
  refine (e.1 (by have := q.isLt; omega)).trans ?_
  rw [show t.val / 12 = 7 by omega]
  unfold maxM
  blk_point [idx t]

end

/-- What the arrays hold at the end. -/
theorem results : θ_run defs (onTc (τ := τ) (main (F := Ideal))) ⟨m, fun _ => 0, ρ⟩ (fun r => ∀ c : Dev nD,
      r.2.mem ((c.tc : Thread nD τ).loc main_v0_0) = gateM m c
      ∧ r.2.mem ((c.tc : Thread nD τ).loc main_v0_1) = upM m c
      ∧ r.2.mem ((c.tc : Thread nD τ).loc main_v0_2) = actM m c
      ∧ r.2.mem ((c.tc : Thread nD τ).loc main_v0_3) = maxM m c) :=
  (θ_run defs _ _).mono (fun r h c => by
    obtain ⟨after, hL, hA⟩ := Pipeline.RDat.FramePost.exists_exact h c
    exact ⟨(hA 6).trans (final6 fun t hf => (dats m 0 c).toRRel_leaves rfl (hL 6 t hf)),
      (hA 7).trans (final7 fun t hf => (dats m 0 c).toRRel_leaves rfl (hL 7 t hf)),
      (hA 8).trans (final8 fun t hf => (dats m 0 c).toRRel_leaves rfl (hL 8 t hf)),
      (hA 9).trans (final9 fun t hf => (dats m 0 c).toRRel_leaves rfl (hL 9 t hf))⟩) (run_rel m ρ)

end Cert.GateUpIdeal.Gen

end
-- ==== Proof.GateUpAlg.lean ====
/-
  THE CALL that projects to the gate and up features and activates them, against the same step written plainly.
-/
module

public import proofs.«01_k».proof.Proof.GateUpPoint
public import proofs.«01_k».proof.Proof.Gen.GateUpRefIdeal.Run
public import proofs.«01_k».proof.Defs
public import Idealize.ShloMosaic.Lib.Claim
public import Idealize.ShloMosaic.Lib.KernelVsHost

@[expose] public section

set_option maxRecDepth 16384

noncomputable section

namespace Cert.GateUpRefIdeal.Value

open Cert.GateUpRefIdeal Cert.GateUpRefIdeal.Gen Idealize.ShloMosaic Idealize.ShloMosaic.TcCoe Idealize.SL.Sem Cert.Math

/-- The columns of a matrix in groups of 128. -/
theorem groups_apply (v : FVec Ideal S6144x8192 .f32) (r : Fin 6144) (k : Fin 64) (l : Fin 128) :
    shapeCast S6144x64x128 (Host.absf v) shapeCasts_S6144x8192_S6144x64x128 (ix3 r k l) = magAt v r.val (128 * k.val + l.val) := by
  unfold magAt
  rw [dif_pos ⟨r.isLt, by omega⟩]
  refine (shapeCast_apply _ _ _ (ix2 r (⟨128 * k.val + l.val, by omega⟩ : Fin 8192)) ?_).trans rfl
  rw [Shape.rowMajor_val_two, Shape.rowMajor_val_three]
  show r.val * 8192 + (128 * k.val + l.val) = (r.val * 64 + k.val) * 128 + l.val
  omega

theorem reduces : S6144x64x128.Reduces [1] S6144x128 := by decide

/-- The host's maximum over the middle axis, as the reduction whose value is a fold over that axis. -/
theorem reduce_eq (x : FVec Ideal S6144x64x128 .f32) :
    Host.reduce FloatOps.maximumf x (constant S_ .f32 0xFF800000#32) reducesTo_S6144x64x128_S6144x128_d1 h_S_
      = multiReduction .maximumf [1] S6144x128 x 0xFF800000#32 reduces (.inl rfl) rfl :=
  hostReduce_maximumf_eq_multiReduction x _ _ h_S_ reduces (.inl rfl) rfl

/-- That reduction at a place: the greatest over the middle axis. -/
theorem sup_apply (x : FVec Ideal S6144x64x128 .f32) (h : S6144x64x128.Reduces [1] S6144x128) (hφ : FKind.Formats .f32) (hacc) (r : Fin 6144) (l : Fin 128) :
    multiReduction .maximumf [1] S6144x128 x 0xFF800000#32 h hφ hacc (ix2 r l) = Finset.univ.sup fun k : Fin 64 => (x (ix3 r k l) : EReal) := by
  rw [Ideal.multiReduction_maximumf_single]
  have hb : (FloatOps.ofBits (F := Ideal) .f32 0xFF800000#32 : EReal) = ⊥ := by simp [FloatOps.ofBits, Ideal.ofBits, Ideal.ieee]
  rw [hb]
  refine Finset.sup_congr rfl fun k _ => ?_
  show x _ = x _
  congr 1
  funext a
  match a with
  | ⟨0, _⟩ => rfl
  | ⟨1, _⟩ => rfl
  | ⟨2, _⟩ => rfl

/-- The greatest of each row and lane over the 64 groups. -/
theorem lane_apply (v : FVec Ideal S6144x8192 .f32) (r : Fin 6144) (l : Fin 128) :
    Host.reduce FloatOps.maximumf (shapeCast S6144x64x128 (Host.absf v) shapeCasts_S6144x8192_S6144x64x128) (constant S_ .f32 0xFF800000#32)
      reducesTo_S6144x64x128_S6144x128_d1 h_S_ (ix2 r l) = laneMax v 64 r.val l.val := by
  refine (congrFun (reduce_eq _) _).trans ((sup_apply _ _ _ _ r l).trans ?_)
  unfold laneMax
  rw [show (Finset.range 64).sup (fun k => magAt v r.val (128 * k + l.val)) = (Finset.univ : Finset (Fin 64)).sup fun k => magAt v r.val (128 * k.val + l.val) by
    apply le_antisymm
    · exact Finset.sup_le fun k hk => Finset.le_sup (f := fun k : Fin 64 => magAt v r.val (128 * k.val + l.val)) (Finset.mem_univ ⟨k, Finset.mem_range.mp hk⟩)
    · exact Finset.sup_le fun k _ => Finset.le_sup (f := fun k => magAt v r.val (128 * k + l.val)) (Finset.mem_range.mpr k.isLt)]
  exact Finset.sup_congr rfl fun k _ => groups_apply v r k l

/-- The gate and the up projection. -/
theorem proj_eq (x : FVec Ideal S6144x3072 .bf16) (s : FVec Ideal S6144x1 .f32) (w : FVec Ideal S3072x8192 .bf16) (g : FVec Ideal S1x8192 .f32) :
    mulf (Host.dotGeneral dot_S6144x3072_S3072x8192_S6144x8192_1_0_0_1_n_n none x w)
      (mulf (broadcastInDim S6144x8192 ![0, 1] bcast_S6144x1_S6144x8192_0_1 s) (broadcastInDim S6144x8192 ![0, 1] bcast_S1x8192_S6144x8192_0_1 g))
      = projSpec x s w g := by
  funext i
  obtain ⟨r, j, rfl⟩ : ∃ r j, i = ix2 r j := ⟨i 0, i 1, by funext a; match a with | ⟨0, _⟩ => rfl | ⟨1, _⟩ => rfl⟩
  pointwise [projSpec]

/-- The activation, of a gate and an up projection. -/
theorem act_apply (a b : FVec Ideal S6144x8192 .f32) (i : S6144x8192.Idx) :
    mulf (mulf a (Host.divf (broadcastInDim S6144x8192 ![] bcast_S_S6144x8192 (constant S_ .f32 0x3F800000#32))
      (addf (broadcastInDim S6144x8192 ![] bcast_S_S6144x8192 (constant S_ .f32 0x3F800000#32)) (Host.exp (Host.negf a))))) b i
      = (a i * Ideal.logistic (a i)) * b i := by
  pointwise [Ideal.logistic, id]

/-- The activation. -/
theorem act_eq (x : FVec Ideal S6144x3072 .bf16) (s : FVec Ideal S6144x1 .f32) (wg wu : FVec Ideal S3072x8192 .bf16) (sg su : FVec Ideal S1x8192 .f32) :
    mulf (mulf (mulf (Host.dotGeneral dot_S6144x3072_S3072x8192_S6144x8192_1_0_0_1_n_n none x wg)
      (mulf (broadcastInDim S6144x8192 ![0, 1] bcast_S6144x1_S6144x8192_0_1 s) (broadcastInDim S6144x8192 ![0, 1] bcast_S1x8192_S6144x8192_0_1 sg))) (Host.divf (broadcastInDim S6144x8192 ![] bcast_S_S6144x8192 (constant S_ .f32 0x3F800000#32))
      (addf (broadcastInDim S6144x8192 ![] bcast_S_S6144x8192 (constant S_ .f32 0x3F800000#32)) (Host.exp (Host.negf (mulf (Host.dotGeneral dot_S6144x3072_S3072x8192_S6144x8192_1_0_0_1_n_n none x wg)
      (mulf (broadcastInDim S6144x8192 ![0, 1] bcast_S6144x1_S6144x8192_0_1 s) (broadcastInDim S6144x8192 ![0, 1] bcast_S1x8192_S6144x8192_0_1 sg))))))))
      (mulf (Host.dotGeneral dot_S6144x3072_S3072x8192_S6144x8192_1_0_0_1_n_n none x wu)
      (mulf (broadcastInDim S6144x8192 ![0, 1] bcast_S6144x1_S6144x8192_0_1 s) (broadcastInDim S6144x8192 ![0, 1] bcast_S1x8192_S6144x8192_0_1 su))) = actSpec x s wg wu sg su := by
  rw [proj_eq, proj_eq]
  funext i
  exact act_apply _ _ i

variable (m : (ℓ : Loc nD τ sig) → Buf (Elt Ideal) ℓ) (ρ : Dev nD → PrngReg)

/-- The reference's results. -/
theorem gateUpRef_run : θ_run defs (onTc (τ := τ) (main (F := Ideal))) ⟨m, fun _ => 0, ρ⟩ fun r => ∀ c : Dev nD,
      r.2.mem ((c.tc : Thread nD τ).loc main_v4) = projSpec (m ((c.tc : Thread nD τ).loc main_arg0)) (m ((c.tc : Thread nD τ).loc main_arg1))
        (m ((c.tc : Thread nD τ).loc main_arg2)) (m ((c.tc : Thread nD τ).loc main_arg4))
      ∧ r.2.mem ((c.tc : Thread nD τ).loc main_v9) = projSpec (m ((c.tc : Thread nD τ).loc main_arg0)) (m ((c.tc : Thread nD τ).loc main_arg1))
        (m ((c.tc : Thread nD τ).loc main_arg3)) (m ((c.tc : Thread nD τ).loc main_arg5))
      ∧ r.2.mem ((c.tc : Thread nD τ).loc main_v17) = actSpec (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v20) = (fun i => laneMax (actSpec (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5)))
          64 (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨h0, h1, h2, h3, hr⟩ := h c
    refine ⟨h0.trans (proj_eq _ _ _ _), h1.trans (proj_eq _ _ _ _), h2.trans (act_eq _ _ _ _ _ _), h3.trans ?_, hr⟩
    funext i
    obtain ⟨q, l, rfl⟩ : ∃ q l, i = ix2 q l := ⟨i 0, i 1, by funext a; match a with | ⟨0, _⟩ => rfl | ⟨1, _⟩ => rfl⟩
    refine (lane_apply _ q l).trans ?_
    exact congrArg (fun v => laneMax v 64 q.val l.val) (act_eq _ _ _ _ _ _)) (run m ρ)

end Cert.GateUpRefIdeal.Value

namespace Cert.Proof

open Idealize.ShloMosaic Idealize.ShloMosaic.TcCoe Idealize.SL.Sem Cert.Math

theorem algebraic_gateUp : Cert.algebraic_GateUpIdeal_GateUpRefIdeal := by
  pair_intro
  · run_from (θ_run_and (Cert.GateUpIdeal.Gen.results m g) (Cert.GateUpIdeal.Gen.unchanged m g))
  · run_from Cert.GateUpRefIdeal.Value.gateUpRef_run m' g'
    all_goals rfl

end Cert.Proof

end
-- ==== Proof.Quant.lean ====
/-
  THE SYMMETRIC 8-BIT QUANTISER, over the extended reals: the scale of a row from the greatest magnitude in it, the code of
  a value at a scale, and that a code written as an 8-bit integer and read back is the same number.
-/
module

public import Idealize.ShloMosaic.PureOps.Ideal
public import Idealize.ShloMosaic.Lib.ValueIdx
public import Idealize.ShloMosaic.Lib.Pointwise

@[expose] public section

noncomputable section

namespace Cert.Math

open Idealize.ShloMosaic

/-- The greatest of `n` values (−∞ for none). -/
def greatest {n : ℕ} (f : Fin n → EReal) : EReal := Finset.fold max (Ideal.ofBits .f32 4286578688#32) f Finset.univ

/-- The scale that goes with a greatest magnitude: a 127th of it, and 1 where that is not positive. -/
def scaleOf (a : EReal) : EReal := if 0 < a then Ideal.div a (Ideal.ofBits .f32 1123942400#32) else 1

/-- The code of the value `v` at the scale `s`: rounded to the nearest integer and clipped to −127 … 127. -/
def codeOf (v s : EReal) : EReal :=
  min (Ideal.ofBits .f32 1123942400#32) (max (Ideal.ofBits .f32 3271426048#32) (Ideal.liftRound Ideal.roundHalfEven (Ideal.div v s)))

theorem ofBits_127 : Ideal.ofBits .f32 1123942400#32 = (((127 : ℤ) : ℝ) : EReal) := by
  simp [Ideal.ofBits, Ideal.ieee, -EReal.coe_mul]; norm_num

theorem ofBits_neg127 : Ideal.ofBits .f32 3271426048#32 = (((-127 : ℤ) : ℝ) : EReal) := by
  simp [Ideal.ofBits, Ideal.ieee, -EReal.coe_mul]; norm_num

/-- A code is one of the integers −127 … 127. -/
theorem codeOf_int (v s : EReal) : ∃ n : ℤ, -127 ≤ n ∧ n ≤ 127 ∧ codeOf v s = ((n : ℝ) : EReal) := by
  unfold codeOf
  rw [ofBits_127, ofBits_neg127]
  generalize Ideal.div v s = w
  induction w with
  | bot => exact ⟨-127, by simp, by simp, by rw [Ideal.liftRound_bot, max_eq_left bot_le, min_eq_right]; norm_cast⟩
  | top => exact ⟨127, by simp, by simp, by rw [Ideal.liftRound_top, max_eq_right le_top, min_eq_left le_top]⟩
  | coe r =>
    refine ⟨min 127 (max (-127) (Ideal.roundHalfEven r)), by omega, by omega, ?_⟩
    rw [Ideal.liftRound_coe]
    rw [← EReal.coe_strictMono.monotone.map_max, ← EReal.coe_strictMono.monotone.map_min, ← Int.cast_max, ← Int.cast_min]

/-- A code written as an 8-bit integer and read back is the code. -/
theorem sitofp_codeOf (φ : FTy) (v s : EReal) : (FloatOps.sitofp (F := Ideal) φ (FloatOps.fptosi (F := Ideal) (φ := .f32) 8 (codeOf v s)) : EReal) = codeOf v s := by
  obtain ⟨n, h0, h1, e⟩ := codeOf_int v s
  rw [e]
  show (((Ideal.fptosi 8 ((n : ℝ) : EReal)).toInt : ℝ) : EReal) = _
  rw [Ideal.fptosi, Ideal.toIntClamped_coe]
  simp only [Int.floor_intCast, Int.ceil_intCast, ite_self]
  congr 2
  rw [BitVec.toInt_ofInt, Int.bmod_eq_of_le] <;> norm_num <;> omega

/-- The scale of row `r` of `x`. -/
def rowScale {T D : ℕ} (x : FVec Ideal ⟨2, ![T, D]⟩ .bf16) (r : Fin T) : EReal :=
  scaleOf (greatest fun k => FloatOps.absf (F := Ideal) (φ := .f32) (x (ix2 r k)))

/-- The scales of the rows of `x`, one column. -/
def scaleSpec {T D : ℕ} (x : FVec Ideal ⟨2, ![T, D]⟩ .bf16) (i : (⟨2, ![T, 1]⟩ : Shape).Idx) : EReal := rowScale x (i 0)

/-- The codes of `x`, as numbers. -/
def codeSpec {T D : ℕ} (x : FVec Ideal ⟨2, ![T, D]⟩ .bf16) (i : (⟨2, ![T, D]⟩ : Shape).Idx) : EReal := codeOf (x i) (rowScale x (i 0))

/-- The codes of `x`, as 8-bit integers. -/
def code8Spec {T D : ℕ} (x : FVec Ideal ⟨2, ![T, D]⟩ .bf16) (i : (⟨2, ![T, D]⟩ : Shape).Idx) : BitVec 8 :=
  FloatOps.fptosi (F := Ideal) (φ := .f32) 8 (codeSpec x i)

/-- The greatest of each row of a matrix, as a reduction along the rows takes it. -/
theorem reduceMax_apply {T D : ℕ} (v : FVec Ideal ⟨2, ![T, D]⟩ .f32) (h : (⟨2, ![T, D]⟩ : Shape).Reduces [1] ⟨1, ![T]⟩) (hφ : FKind.Formats .f32) (hacc) (q : Fin T) :
    multiReduction .maximumf [1] ⟨1, ![T]⟩ v 0xFF800000#32 h hφ hacc (ix1 q) = greatest fun k : Fin D => v (ix2 q k) := by
  rw [Ideal.multiReduction_maximumf_single]
  unfold greatest
  congr 1
  funext k
  show v _ = v _
  congr 1
  funext a
  match a with
  | ⟨0, _⟩ => rfl
  | ⟨1, _⟩ => rfl

end Cert.Math

end
-- ==== Proof.QuantXVal.lean ====
/-
  THE CALL that quantises the activations, row by row.
-/
module

public import proofs.«01_k».proof.Proof.Quant
public import proofs.«01_k».proof.Proof.Gen.QuantXIdeal.Value
public import proofs.«01_k».proof.Proof.Spec
public import Idealize.ShloMosaic.Lib.Claim

@[expose] public section

set_option maxRecDepth 16384

noncomputable section

namespace Cert.QuantXIdeal.Value

open Cert.QuantXIdeal Cert.QuantXIdeal.Gen Idealize.ShloMosaic Idealize.ShloMosaic.TcCoe Idealize.SL.Sem Cert.Math

variable (m : (ℓ : Loc nD τ sig) → Buf (Elt Ideal) ℓ)

/-- The rounded and clipped quotient. -/
theorem code_apply (x : FVec Ideal S256x3072 .f32) (s : FVec Ideal S256x1 .f32) (q : Fin 256) (z : Fin 3072) :
    minimumf (broadcast S256x3072 (Scalar.ofBits (F := Ideal) .f32 0x42FE0000#32)) (maximumf (broadcast S256x3072 (Scalar.ofBits (F := Ideal) .f32 0xC2FE0000#32))
      (roundeven (divf x (broadcastTo S256x3072 s broadcasts_S256x1_S256x3072)))) (ix2 q z) = codeOf (x (ix2 q z)) (s (ix2 q 0)) := by
  pointwise [codeOf]

/-- The scale from the rows' greatest magnitudes. -/
theorem scale_apply (g : FVec Ideal S256 .f32) (q : Fin 256) (z : Fin 1) :
    select (cmpf .ogt (shapeCast S256x1 g shapeCasts_S256_S256x1) (broadcast S256x1 (Scalar.ofBits (F := Ideal) .f32 0x00000000#32)))
      (divf (shapeCast S256x1 g shapeCasts_S256_S256x1) (broadcast S256x1 (Scalar.ofBits (F := Ideal) .f32 0x42FE0000#32)))
      (broadcast S256x1 (Scalar.ofBits (F := Ideal) .f32 0x3F800000#32)) (ix2 q z) = scaleOf (g (ix1 q)) := by
  pointwise [scaleOf]

/-- The magnitudes of one row. -/
theorem abs_apply (x : Vec Ideal S256x3072 .bf16) (q : Fin 256) :
    (fun k : Fin 3072 => absf (k0_pay1 x) (ix2 q k)) = fun k => FloatOps.absf (F := Ideal) (φ := .f32) (x (ix2 q k)) := by
  funext k
  pointwise [k0_pay1]

/-- The scale of one row of a block. -/
theorem pay2_apply (x : Vec Ideal S256x3072 .bf16) (q : Fin 256) (z : Fin 1) : k0_pay2 x (ix2 q z) = rowScale x q := by
  have e : k0_pay2 x (ix2 q z) = scaleOf (greatest fun k : Fin 3072 => absf (k0_pay1 x) (ix2 q k)) := by
    unfold k0_pay2
    exact (scale_apply _ q z).trans (congrArg scaleOf (reduceMax_apply (absf (k0_pay1 x)) reduces_S256x3072_S256 (.inl rfl) rfl q))
  rw [e, abs_apply]
  unfold rowScale
  rfl

/-- The code of one value of a block, as a number. -/
theorem pay3_apply (x : Vec Ideal S256x3072 .bf16) (q : Fin 256) (z : Fin 3072) : k0_pay3 x (ix2 q z) = codeSpec x (ix2 q z) := by
  unfold k0_pay3
  refine (code_apply (k0_pay1 x) (k0_pay2 x) q z).trans ?_
  rw [pay2_apply]
  rfl

theorem hz : (![0, 0] : Fin 2 → Nat) = fun _ => 0 := funext fun a => by fin_cases a <;> rfl

/-- The scales of one block of rows. -/
theorem out3_eq (x0 : Vec Ideal S256x3072 .bf16) (q : Fin 256) (z : Fin 1) : out0_3 x0 (ix2 q z) = scaleSpec x0 (ix2 q z) := by
  unfold out0_3
  rw [View.canon_unit_zero hz, View.ld_unit_zero (S := S256x3072) hz _ x0]
  exact pay2_apply x0 q z

/-- The codes of one block of rows, as numbers. -/
theorem out2_eq (x0 : Vec Ideal S256x3072 .bf16) (q : Fin 256) (z : Fin 3072) : out0_2 x0 (ix2 q z) = codeSpec x0 (ix2 q z) := by
  unfold out0_2
  rw [View.canon_unit_zero hz, View.ld_unit_zero (S := S256x3072) hz _ x0]
  exact pay3_apply x0 q z

/-- The codes of one block of rows, as 8-bit integers. -/
theorem out1_eq (x0 : Vec Ideal S256x3072 .bf16) (q : Fin 256) (z : Fin 3072) : out0_1 x0 (ix2 q z) = code8Spec x0 (ix2 q z) := by
  unfold out0_1
  rw [View.canon_unit_zero hz, View.ld_unit_zero (S := S256x3072) hz _ x0]
  exact congrArg (FloatOps.fptosi (F := Ideal) (φ := .f32) 8) (pay3_apply x0 q z)

/-- The windows' index maps, every point at once. -/
theorem idx : ∀ t : Fin cfg0.N, win0_0.index t = ![t.val, 0] ∧ win0_1.index t = ![t.val, 0] ∧ win0_2.index t = ![t.val, 0] ∧ win0_3.index t = ![t.val, 0] :=
  (by decide +kernel : ∀ t : Fin grid0.N, _)

theorem final1 (c : Dev nD) : (dats m 0 c).arrAt 1 (cfgs 0).N = code8Spec (m ((c : Thread nD τ).loc main_arg0)) := by
  refine (dats m 0 c).arrAt_eq_of_covers 1 _ (by decide +kernel) fun t _ y => ?_
  blk_simp
  rw [after0_1]
  obtain ⟨q, j, rfl⟩ : ∃ q j, y = ix2 q j := ⟨y 0, y 1, by funext a; match a with | ⟨0, _⟩ => rfl | ⟨1, _⟩ => rfl⟩
  refine (out1_eq _ q j).trans ?_
  unfold code8Spec codeSpec codeOf rowScale scaleOf greatest
  blk_point [iblk, V, idx t]

theorem final2 (c : Dev nD) : (dats m 0 c).arrAt 2 (cfgs 0).N = codeSpec (m ((c : Thread nD τ).loc main_arg0)) := by
  refine (dats m 0 c).arrAt_eq_of_covers 2 _ (by decide +kernel) fun t _ y => ?_
  blk_simp
  rw [after0_2]
  obtain ⟨q, j, rfl⟩ : ∃ q j, y = ix2 q j := ⟨y 0, y 1, by funext a; match a with | ⟨0, _⟩ => rfl | ⟨1, _⟩ => rfl⟩
  refine (out2_eq _ q j).trans ?_
  unfold codeSpec codeOf rowScale scaleOf greatest
  blk_point [iblk, V, idx t]

theorem final3 (c : Dev nD) : (dats m 0 c).arrAt 3 (cfgs 0).N = scaleSpec (m ((c : Thread nD τ).loc main_arg0)) := by
  refine (dats m 0 c).arrAt_eq_of_covers 3 _ (by decide +kernel) fun t _ y => ?_
  blk_simp
  rw [after0_3]
  obtain ⟨q, j, rfl⟩ : ∃ q j, y = ix2 q j := ⟨y 0, y 1, by funext a; match a with | ⟨0, _⟩ => rfl | ⟨1, _⟩ => rfl⟩
  refine (out3_eq _ q j).trans ?_
  unfold scaleSpec  rowScale scaleOf greatest
  blk_point [iblk, V, idx t]

end Cert.QuantXIdeal.Value

end
-- ==== Proof.QuantXRef.lean ====
/-
  THE PLAIN QUANTISER of the activations, whole array at once.
-/
module

public import proofs.«01_k».proof.Proof.Quant
public import proofs.«01_k».proof.Proof.Gen.QuantXRefIdeal.Value
public import proofs.«01_k».proof.Proof.Spec
public import Idealize.ShloMosaic.Lib.Claim

@[expose] public section

set_option maxRecDepth 16384

noncomputable section

namespace Cert.QuantXRefIdeal.Value

open Cert.QuantXRefIdeal Cert.QuantXRefIdeal.Gen Idealize.ShloMosaic Idealize.ShloMosaic.TcCoe Idealize.SL.Sem Cert.Math

/-- The rounded and clipped quotient. -/
theorem code_apply (x : FVec Ideal S6144x3072 .f32) (s : FVec Ideal S6144x1 .f32) (q : Fin 6144) (z : Fin 3072) :
    minimumf (broadcast S6144x3072 (Scalar.ofBits (F := Ideal) .f32 0x42FE0000#32)) (maximumf (broadcast S6144x3072 (Scalar.ofBits (F := Ideal) .f32 0xC2FE0000#32))
      (roundeven (divf x (broadcastTo S6144x3072 s broadcasts_S6144x1_S6144x3072)))) (ix2 q z) = codeOf (x (ix2 q z)) (s (ix2 q 0)) := by
  pointwise [codeOf]

/-- The scale from the rows' greatest magnitudes. -/
theorem scale_apply (g : FVec Ideal S6144 .f32) (q : Fin 6144) (z : Fin 1) :
    select (cmpf .ogt (shapeCast S6144x1 g shapeCasts_S6144_S6144x1) (broadcast S6144x1 (Scalar.ofBits (F := Ideal) .f32 0x00000000#32)))
      (divf (shapeCast S6144x1 g shapeCasts_S6144_S6144x1) (broadcast S6144x1 (Scalar.ofBits (F := Ideal) .f32 0x42FE0000#32)))
      (broadcast S6144x1 (Scalar.ofBits (F := Ideal) .f32 0x3F800000#32)) (ix2 q z) = scaleOf (g (ix1 q)) := by
  pointwise [scaleOf]

/-- The magnitudes of one row. -/
theorem abs_apply (x : Vec Ideal S6144x3072 .bf16) (q : Fin 6144) :
    (fun k : Fin 3072 => absf (k0_pay1 x) (ix2 q k)) = fun k => FloatOps.absf (F := Ideal) (φ := .f32) (x (ix2 q k)) := by
  funext k
  pointwise [k0_pay1]

/-- The scale of one row. -/
theorem pay2_apply (x : Vec Ideal S6144x3072 .bf16) (q : Fin 6144) (z : Fin 1) : k0_pay2 x (ix2 q z) = rowScale x q := by
  have e : k0_pay2 x (ix2 q z) = scaleOf (greatest fun k : Fin 3072 => absf (k0_pay1 x) (ix2 q k)) := by
    unfold k0_pay2
    exact (scale_apply _ q z).trans (congrArg scaleOf (reduceMax_apply (absf (k0_pay1 x)) reduces_S6144x3072_S6144 (.inl rfl) rfl q))
  rw [e, abs_apply]
  unfold rowScale
  rfl

/-- The code of one value, as an 8-bit integer. -/
theorem pay3_apply (x : Vec Ideal S6144x3072 .bf16) (q : Fin 6144) (z : Fin 3072) : k0_pay3 x (ix2 q z) = code8Spec x (ix2 q z) := by
  unfold k0_pay3
  refine congrArg (FloatOps.fptosi (F := Ideal) (φ := .f32) 8) ((code_apply (k0_pay1 x) (k0_pay2 x) q z).trans ?_)
  rw [pay2_apply]
  rfl

/-- The code of one value, as a number. -/
theorem pay4_apply (x : Vec Ideal S6144x3072 .bf16) (q : Fin 6144) (z : Fin 3072) : k0_pay4 x (ix2 q z) = codeSpec x (ix2 q z) :=
  (congrArg (FloatOps.sitofp (F := Ideal) .bf16) (pay3_apply x q z)).trans (sitofp_codeOf _ _ _)

end Cert.QuantXRefIdeal.Value

end
-- ==== Proof.QuantXAlg.lean ====
/-
  THE CALL that quantises the activations, against the same quantiser written plainly.
-/
module

public import proofs.«01_k».proof.Proof.QuantXVal
public import proofs.«01_k».proof.Proof.QuantXRef
public import proofs.«01_k».proof.Defs
public import Idealize.ShloMosaic.Lib.Claim

@[expose] public section

set_option maxRecDepth 16384

noncomputable section

namespace Cert.Proof

open Idealize.ShloMosaic Idealize.ShloMosaic.TcCoe Idealize.SL.Sem Cert.Math

open Cert.QuantXRefIdeal in
/-- What the plain quantiser leaves: the codes as integers, the codes as numbers, the scales. -/
theorem quantXRef_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) = code8Spec (m ((c : Thread nD τ).loc main_arg0))
      ∧ r.2.mem ((c : Thread nD τ).loc main_v0_1) = codeSpec (m ((c : Thread nD τ).loc main_arg0))
      ∧ r.2.mem ((c : Thread nD τ).loc main_v0_2) = scaleSpec (m ((c : Thread nD τ).loc main_arg0))
      ∧ r.2.mem ((c : Thread nD τ).loc main_arg0) = m ((c : Thread nD τ).loc main_arg0) := by
  refine (θ_run defs _ _).mono (fun r h c => ⟨(h c).1.trans ?_, (h c).2.1.trans ?_, (h c).2.2.1.trans ?_, (h c).2.2.2⟩) (Value.run m ρ)
  · funext i
    obtain ⟨q, j, rfl⟩ : ∃ q j, i = ix2 q j := ⟨i 0, i 1, by funext a; match a with | ⟨0, _⟩ => rfl | ⟨1, _⟩ => rfl⟩
    exact Value.pay3_apply _ q j
  · funext i
    obtain ⟨q, j, rfl⟩ : ∃ q j, i = ix2 q j := ⟨i 0, i 1, by funext a; match a with | ⟨0, _⟩ => rfl | ⟨1, _⟩ => rfl⟩
    exact Value.pay4_apply _ q j
  · funext i
    obtain ⟨q, j, rfl⟩ : ∃ q j, i = ix2 q j := ⟨i 0, i 1, by funext a; match a with | ⟨0, _⟩ => rfl | ⟨1, _⟩ => rfl⟩
    exact Value.pay2_apply _ q j

theorem algebraic_quantX : Cert.algebraic_QuantXIdeal_QuantXRefIdeal := by
  pair_intro
  · run_from Cert.QuantXIdeal.Gen.run_main m g
  · run_from quantXRef_run m' g'
    · exact (Cert.QuantXIdeal.Value.final1 m c).symm
    · exact (Cert.QuantXIdeal.Value.final2 m c).symm
    · exact (Cert.QuantXIdeal.Value.final3 m c).symm

end Cert.Proof

end
-- ==== Proof.DownFrame.lean ====
/-
  THE DOWN PROJECTION'S CALL RUNS at the machine's own floats: it terminates, faults nowhere and leaves its
  arguments and semaphore counters as they were. Nothing is said here of what its outputs hold.
-/
module

public import proofs.«01_k».proof.Proof.Gen.Down.Frame
public import proofs.«01_k».proof.Proof.Gen.Down.Skeleton
public import proofs.«01_k».proof.Proof.Gen.Down.Launch
public import proofs.«01_k».proof.Proof.Gen.Down.Points
public import Idealize.ShloMosaic.Lib.Claim

@[expose] public section

set_option maxRecDepth 16384

noncomputable section

namespace Cert.Down.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Down`, Defs.lean, at any `F`). -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c))⟩) h

/-! ## The kernel body on any staging memrefs -/

/-- Each window's current staging memref at point `t`, spelled as the pipeline passes it (`bodyAt0`). -/
abbrev ms0_0 (t : Fin cfg0.N) : Memref sig .tc .vmem S512x1024 .f32 := win0_0.stage (cfg0.slots t 0)
abbrev ms0_1 (t : Fin cfg0.N) : Memref sig .tc .vmem S512x128 .f32 := win0_1.stage (cfg0.slots t 1)
abbrev ms0_2 (t : Fin cfg0.N) : Memref sig .tc .vmem S1024x3072 .bf16 := win0_2.stage (cfg0.slots t 2)
abbrev ms0_3 (t : Fin cfg0.N) : Memref sig .tc .vmem S1x3072 .f32 := win0_3.stage (cfg0.slots t 3)
abbrev ms0_4 (t : Fin cfg0.N) : Memref sig .tc .vmem S512x3072 .bf16 := win0_4.stage (cfg0.slots t 4)
abbrev ms0_5 (t : Fin cfg0.N) : Memref sig .tc .vmem S512x3072 .bf16 := win0_5.stage (cfg0.slots t 5)
abbrev ms0_6 (t : Fin cfg0.N) : Memref sig .tc .vmem S512x1024 .i8 := win0_6.stage (cfg0.slots t 6)
abbrev ms0_7 (t : Fin cfg0.N) : Memref sig .tc .vmem S512x1024 .bf16 := win0_7.stage (cfg0.slots t 7)
abbrev ms0_8 (t : Fin cfg0.N) : Memref sig .tc .vmem S512x1 .f32 := win0_8.stage (cfg0.slots t 8)
abbrev ms0_9 (t : Fin cfg0.N) : Memref sig .tc .vmem S512x1 .f32 := win0_9.stage (cfg0.slots t 9)
abbrev ms0_10 (t : Fin cfg0.N) : Memref sig .tc .vmem S512x3072 .bf16 := win0_10.stage (cfg0.slots t 10)
abbrev ms0_11 (t : Fin cfg0.N) : Memref sig .tc .vmem S512x3072 .bf16 := win0_11.stage (cfg0.slots t 11)

set_option maxHeartbeats 2000000 in
/-- The body on whole buffers, at the first point of a row of tiles. -/
theorem kernelRunA (c : Dev nD) (i : grid0.Coords) (arg2 : Memref sig .tc .vmem S512x1024 .f32) (harg2 : arg2.IsWhole) (arg3 : Memref sig .tc .vmem S512x128 .f32) (harg3 : arg3.IsWhole) (arg4 : Memref sig .tc .vmem S1024x3072 .bf16) (harg4 : arg4.IsWhole) (arg5 : Memref sig .tc .vmem S1x3072 .f32) (harg5 : arg5.IsWhole) (arg6 : Memref sig .tc .vmem S512x3072 .bf16) (harg6 : arg6.IsWhole) (arg7 : Memref sig .tc .vmem S512x3072 .bf16) (harg7 : arg7.IsWhole) (arg8 : Memref sig .tc .vmem S512x1024 .i8) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x3072 .bf16) (harg12 : arg12.IsWhole) (arg13 : Memref sig .tc .vmem S512x3072 .bf16) (harg13 : arg13.IsWhole) (arg14 : Memref sig .tc .vmem S512x3072 .f32) (harg14 : arg14.IsWhole)
    (hc1 : k0_cond1 i = 1#1) (hc2 : k0_cond2 i = 1#1) (hc3 : ¬k0_cond3 i = 1#1) (hc4 : ¬k0_cond4 i = 1#1)
    (x0 : Vec F S512x1024 .f32) (x1 : Vec F S512x128 .f32) (x2 : Vec F S1024x3072 .bf16) (x3 : Vec F S1x3072 .f32) (x4 : Vec F S512x3072 .bf16) (x5 : Vec F S512x3072 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13 arg14 harg14) K := by
    intro E K
    simp only [cc0_down_eq_skeleton]; unfold cc0_down_skel
    simp only [dif_pos hc1, dif_pos hc2, dif_neg hc3, dif_neg hc4]
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    subst hf0 hf1 hf2 hf3 hf4 hf5
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact H12
    ipureintro; rfl

set_option maxHeartbeats 2000000 in
/-- The body on whole buffers, at the points in between. -/
theorem kernelRunB (c : Dev nD) (i : grid0.Coords) (arg2 : Memref sig .tc .vmem S512x1024 .f32) (harg2 : arg2.IsWhole) (arg3 : Memref sig .tc .vmem S512x128 .f32) (harg3 : arg3.IsWhole) (arg4 : Memref sig .tc .vmem S1024x3072 .bf16) (harg4 : arg4.IsWhole) (arg5 : Memref sig .tc .vmem S1x3072 .f32) (harg5 : arg5.IsWhole) (arg6 : Memref sig .tc .vmem S512x3072 .bf16) (harg6 : arg6.IsWhole) (arg7 : Memref sig .tc .vmem S512x3072 .bf16) (harg7 : arg7.IsWhole) (arg8 : Memref sig .tc .vmem S512x1024 .i8) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x3072 .bf16) (harg12 : arg12.IsWhole) (arg13 : Memref sig .tc .vmem S512x3072 .bf16) (harg13 : arg13.IsWhole) (arg14 : Memref sig .tc .vmem S512x3072 .f32) (harg14 : arg14.IsWhole)
    (hc1 : ¬k0_cond1 i = 1#1) (hc2 : ¬k0_cond2 i = 1#1) (hc3 : k0_cond3 i = 1#1) (hc4 : ¬k0_cond4 i = 1#1)
    (x0 : Vec F S512x1024 .f32) (x1 : Vec F S512x128 .f32) (x2 : Vec F S1024x3072 .bf16) (x3 : Vec F S1x3072 .f32) (x4 : Vec F S512x3072 .bf16) (x5 : Vec F S512x3072 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13 arg14 harg14) K := by
    intro E K
    simp only [cc0_down_eq_skeleton]; unfold cc0_down_skel
    simp only [dif_neg hc1, dif_neg hc2, dif_pos hc3, dif_neg hc4]
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    subst hf0 hf1 hf2 hf3 hf4 hf5
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact H12
    ipureintro; rfl

set_option maxHeartbeats 2000000 in
/-- The body on whole buffers, at the last point. -/
theorem kernelRunC (c : Dev nD) (i : grid0.Coords) (arg2 : Memref sig .tc .vmem S512x1024 .f32) (harg2 : arg2.IsWhole) (arg3 : Memref sig .tc .vmem S512x128 .f32) (harg3 : arg3.IsWhole) (arg4 : Memref sig .tc .vmem S1024x3072 .bf16) (harg4 : arg4.IsWhole) (arg5 : Memref sig .tc .vmem S1x3072 .f32) (harg5 : arg5.IsWhole) (arg6 : Memref sig .tc .vmem S512x3072 .bf16) (harg6 : arg6.IsWhole) (arg7 : Memref sig .tc .vmem S512x3072 .bf16) (harg7 : arg7.IsWhole) (arg8 : Memref sig .tc .vmem S512x1024 .i8) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x3072 .bf16) (harg12 : arg12.IsWhole) (arg13 : Memref sig .tc .vmem S512x3072 .bf16) (harg13 : arg13.IsWhole) (arg14 : Memref sig .tc .vmem S512x3072 .f32) (harg14 : arg14.IsWhole)
    (hc1 : ¬k0_cond1 i = 1#1) (hc2 : ¬k0_cond2 i = 1#1) (hc3 : ¬k0_cond3 i = 1#1) (hc4 : k0_cond4 i = 1#1)
    (x0 : Vec F S512x1024 .f32) (x1 : Vec F S512x128 .f32) (x2 : Vec F S1024x3072 .bf16) (x3 : Vec F S1x3072 .f32) (x4 : Vec F S512x3072 .bf16) (x5 : Vec F S512x3072 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13 arg14 harg14) K := by
    intro E K
    simp only [cc0_down_eq_skeleton]; unfold cc0_down_skel
    simp only [dif_neg hc1, dif_neg hc2, dif_neg hc3, dif_pos hc4]
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    subst hf0 hf1 hf2 hf3 hf4 hf5
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact H12
    ipureintro; rfl

/-- Which branches the body takes: the first two at the first point of a row of tiles, the last at its last, the third at the others. -/
theorem conds : ∀ t : Fin cfg0.N,
    (t.val % 8 = 0 → k0_cond1 (grid0.coords t) = 1#1 ∧ k0_cond2 (grid0.coords t) = 1#1 ∧ ¬k0_cond3 (grid0.coords t) = 1#1 ∧ ¬k0_cond4 (grid0.coords t) = 1#1)
    ∧ (t.val % 8 ≠ 0 → t.val % 8 ≠ 7 → ¬k0_cond1 (grid0.coords t) = 1#1 ∧ ¬k0_cond2 (grid0.coords t) = 1#1 ∧ k0_cond3 (grid0.coords t) = 1#1 ∧ ¬k0_cond4 (grid0.coords t) = 1#1)
    ∧ (t.val % 8 = 7 → ¬k0_cond1 (grid0.coords t) = 1#1 ∧ ¬k0_cond2 (grid0.coords t) = 1#1 ∧ ¬k0_cond3 (grid0.coords t) = 1#1 ∧ k0_cond4 (grid0.coords t) = 1#1) :=
  (by decide +kernel : ∀ t : Fin grid0.N, _)

/-! ## The pipeline's proof data -/

/-- The windows held to a predicate, or to none: the outputs. -/
def forgets0 : Fin 12 → Bool := fun w => w.val == 6 || w.val == 7 || w.val == 8 || w.val == 9 || w.val == 10 || w.val == 11

/-- The proof data: after the body each input's buffer holds its block; nothing is said of the outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5]
  unfold Pipeline.ΦA
  rw [scopedRest0_eq]
  simp only [← owns_whole]
  iintro ⟨⟨⟨%d12, H12⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hc := conds t
  by_cases h0 : t.val % 8 = 0
  · obtain ⟨h1, h2, h3, h4⟩ := hc.1 h0
    iapply ((kernelRunA c (grid0.coords t) _ _ _ _ _ _ _ _ _ _ _ _ _ _ _ _ _ _ _ _ _ _ _ _ _ _ h1 h2 h3 h4 (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iintro ⟨H0, H1, H2, H3, H4, H5, H6, H7, H8, H9, H10, H11, H12⟩
    isplitl [H12 Hr]
    · isplitl [H12]; · iexact H12
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  by_cases h7 : t.val % 8 = 7
  · obtain ⟨h1, h2, h3, h4⟩ := hc.2.2 h7
    iapply ((kernelRunC c (grid0.coords t) _ _ _ _ _ _ _ _ _ _ _ _ _ _ _ _ _ _ _ _ _ _ _ _ _ _ h1 h2 h3 h4 (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iintro ⟨H0, H1, H2, H3, H4, H5, H6, H7, H8, H9, H10, H11, H12⟩
    isplitl [H12 Hr]
    · isplitl [H12]; · iexact H12
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · obtain ⟨h1, h2, h3, h4⟩ := hc.2.1 h0 h7
    iapply ((kernelRunB c (grid0.coords t) _ _ _ _ _ _ _ _ _ _ _ _ _ _ _ _ _ _ _ _ _ _ _ _ _ _ h1 h2 h3 h4 (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iintro ⟨H0, H1, H2, H3, H4, H5, H6, H7, H8, H9, H10, H11, H12⟩
    isplitl [H12 Hr]
    · isplitl [H12]; · iexact H12
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6 to 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_rel m ρ (fun c => (dats m 0 c).toRForget forgets0) (A_eq m) (run_main m ρ)

/-- THE FRAME: `Cert.quiescent_Down`'s statement (Defs.lean) at any `F` — Proof.lean cites it at `Bits`:
    `theorem Cert.Proof.claim : Cert.Claim := ⟨Cert.Down.Gen.facts, fun m ρ _ => Cert.Down.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Down.Gen

end
-- ==== Proof.DownRun.lean ====
/-
  THE DOWN PROJECTION'S CALL, one grid point at a time: what the body leaves in each buffer at the first, at a middle and at the
  last of the eight points of a tile of rows.
-/
module

public import proofs.«01_k».proof.Proof.Gen.DownIdeal.Frame
public import proofs.«01_k».proof.Proof.Gen.DownIdeal.Skeleton
public import Idealize.ShloMosaic.Lib.Claim

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rLo : Rect S512x1024 := Rect.unit (s := S512x1024) ![0, 0] S256x1024.size inb_S512x1024_S256x1024_0_0
abbrev rHi : Rect S512x1024 := Rect.unit (s := S512x1024) ![256, 0] S256x1024.size inb_S512x1024_S256x1024_256_0
abbrev rY0 : Rect S512x3072 := Rect.unit (s := S512x3072) ![0, 0] S256x3072.size inb_S512x3072_S256x3072_0_0
abbrev rY1 : Rect S512x3072 := Rect.unit (s := S512x3072) ![256, 0] S256x3072.size inb_S512x3072_S256x3072_256_0
abbrev rS0 : Rect S512x1 := Rect.unit (s := S512x1) ![0, 0] S256x1.size inb_S512x1_S256x1_0_0
abbrev rS1 : Rect S512x1 := Rect.unit (s := S512x1) ![256, 0] S256x1.size inb_S512x1_S256x1_256_0
abbrev rS : Rect S512x1 := Rect.unit (s := S512x1) ![0, 0] S512x1.size inb_S512x1_S512x1_0_0
abbrev rM : Rect S512x128 := Rect.unit (s := S512x128) ![0, 0] S512x128.size inb_S512x128_S512x128_0_0
abbrev rW : Rect S1024x3072 := Rect.unit (s := S1024x3072) ![0, 0] S1024x3072.size inb_S1024x3072_S1024x3072_0_0
abbrev rG : Rect S1x3072 := Rect.unit (s := S1x3072) ![0, 0] S1x3072.size inb_S1x3072_S1x3072_0_0

/-- The scales of a tile of rows, its codes, and the running sums after the first point and after a later one. -/
def scaleOut (x1 : Vec F S512x128 .f32) : Vec F S512x1 .f32 := View.canon [⟨rS, k0_pay1 (View.ld x1 rM)⟩]

def codeOut (x0 : Vec F S512x1024 .f32) (s : Vec F S512x1 .f32) : Vec F S512x1024 .i8 :=
  View.canon [⟨rHi, k0_pay12 (View.ld s rS1) (View.ld x0 rHi)⟩, ⟨rLo, k0_pay12 (View.ld s rS0) (View.ld x0 rLo)⟩]

def codeBfOut (x0 : Vec F S512x1024 .f32) (s : Vec F S512x1 .f32) : Vec F S512x1024 .bf16 :=
  View.canon [⟨rHi, k0_pay13 (View.ld s rS1) (View.ld x0 rHi)⟩, ⟨rLo, k0_pay13 (View.ld s rS0) (View.ld x0 rLo)⟩]

def accFirst (x0 : Vec F S512x1024 .f32) (s : Vec F S512x1 .f32) (x2 : Vec F S1024x3072 .bf16) : Vec F S512x3072 .f32 :=
  View.canon [⟨rY1, k0_pay14 (View.ld s rS1) (View.ld x0 rHi) (View.ld x2 rW)⟩, ⟨rY0, k0_pay14 (View.ld s rS0) (View.ld x0 rLo) (View.ld x2 rW)⟩]

def accNext (x0 : Vec F S512x1024 .f32) (s : Vec F S512x1 .f32) (x2 : Vec F S1024x3072 .bf16) (acc : Vec F S512x3072 .f32) : Vec F S512x3072 .f32 :=
  View.canon [⟨rY1, k0_pay21 (View.ld s rS1) (View.ld x0 rHi) (View.ld x2 rW) (View.ld acc rY1)⟩,
    ⟨rY0, k0_pay21 (View.ld s rS0) (View.ld x0 rLo) (View.ld x2 rW) (View.ld acc rY0)⟩]

/-- The losses of a tile of rows, and the two scaled gradients, from the running sums before the last point. -/
def lossOut (x0 : Vec F S512x1024 .f32) (s : Vec F S512x1 .f32) (x2 : Vec F S1024x3072 .bf16) (acc : Vec F S512x3072 .f32)
    (x3 : Vec F S1x3072 .f32) (x4 x5 : Vec F S512x3072 .bf16) : Vec F S512x1 .f32 :=
  View.canon [⟨rS1, k0_pay30 (View.ld s rS1) (View.ld x0 rHi) (View.ld x2 rW) (View.ld acc rY1) (View.ld x3 rG) (View.ld x4 rY1) (View.ld x5 rY1)⟩,
    ⟨rS0, k0_pay30 (View.ld s rS0) (View.ld x0 rLo) (View.ld x2 rW) (View.ld acc rY0) (View.ld x3 rG) (View.ld x4 rY0) (View.ld x5 rY0)⟩]

def dyaOut (x0 : Vec F S512x1024 .f32) (s : Vec F S512x1 .f32) (x2 : Vec F S1024x3072 .bf16) (acc : Vec F S512x3072 .f32)
    (x3 : Vec F S1x3072 .f32) (x4 x5 : Vec F S512x3072 .bf16) : Vec F S512x3072 .bf16 :=
  View.canon [⟨rY1, k0_pay32 (k0_pay24 (View.ld s rS1)) (k0_pay29 (View.ld s rS1) (View.ld x0 rHi) (View.ld x2 rW) (View.ld acc rY1) (View.ld x3 rG) (View.ld x4 rY1) (View.ld x5 rY1))⟩,
    ⟨rY0, k0_pay32 (k0_pay24 (View.ld s rS0)) (k0_pay29 (View.ld s rS0) (View.ld x0 rLo) (View.ld x2 rW) (View.ld acc rY0) (View.ld x3 rG) (View.ld x4 rY0) (View.ld x5 rY0))⟩]

def dywOut (x0 : Vec F S512x1024 .f32) (s : Vec F S512x1 .f32) (x2 : Vec F S1024x3072 .bf16) (acc : Vec F S512x3072 .f32)
    (x3 : Vec F S1x3072 .f32) (x4 x5 : Vec F S512x3072 .bf16) : Vec F S512x3072 .bf16 :=
  View.canon [⟨rY1, k0_pay33 (View.ld x3 rG) (k0_pay29 (View.ld s rS1) (View.ld x0 rHi) (View.ld x2 rW) (View.ld acc rY1) (View.ld x3 rG) (View.ld x4 rY1) (View.ld x5 rY1))⟩,
    ⟨rY0, k0_pay33 (View.ld x3 rG) (k0_pay29 (View.ld s rS0) (View.ld x0 rLo) (View.ld x2 rW) (View.ld acc rY0) (View.ld x3 rG) (View.ld x4 rY0) (View.ld x5 rY0))⟩]

/-- The two pieces of 256 rows tile each buffer. -/
theorem cover {e : EltTy} (p0 p1 : Vec F S256x1024 e) (y : S512x1024.Idx) :
    ∃ pc ∈ ([⟨rHi, p0⟩, ⟨rLo, p1⟩] : List (View.Piece (Elt F) S512x1024 e)), y ∈ pc.1.set :=
  View.cover_of_tiled [⟨rHi, p0⟩, ⟨rLo, p1⟩] S256x1024.size (by rfl) y

theorem coverY {e : EltTy} (p0 p1 : Vec F S256x3072 e) (y : S512x3072.Idx) :
    ∃ pc ∈ ([⟨rY1, p0⟩, ⟨rY0, p1⟩] : List (View.Piece (Elt F) S512x3072 e)), y ∈ pc.1.set :=
  View.cover_of_tiled [⟨rY1, p0⟩, ⟨rY0, p1⟩] S256x3072.size (by rfl) y

theorem coverS {e : EltTy} (p0 p1 : Vec F S256x1 e) (y : S512x1.Idx) :
    ∃ pc ∈ ([⟨rS1, p0⟩, ⟨rS0, p1⟩] : List (View.Piece (Elt F) S512x1 e)), y ∈ pc.1.set :=
  View.cover_of_tiled [⟨rS1, p0⟩, ⟨rS0, p1⟩] S256x1.size (by rfl) y

theorem coverAll {e : EltTy} (p : Vec F S512x1 e) (y : S512x1.Idx) :
    ∃ pc ∈ ([⟨rS, p⟩] : List (View.Piece (Elt F) S512x1 e)), y ∈ pc.1.set :=
  View.cover_of_tiled [⟨rS, p⟩] S512x1.size (by rfl) y

/-- The scales read back from their buffer after they are written. -/
theorem ldScale0 {sp : Space} (v : View sig .tc sp S512x1 .f32) (x1 : Vec F S512x128 .f32) :
    v.readCov (Val := Elt F) [⟨rS, k0_pay1 (View.ld x1 rM)⟩] rS0.toLoadRect = View.ld (scaleOut x1) rS0 :=
  View.readCov_eq_canon_ld _ _ _ (coverAll _)

theorem ldScale1 {sp : Space} (v : View sig .tc sp S512x1 .f32) (x1 : Vec F S512x128 .f32) :
    v.readCov (Val := Elt F) [⟨rS, k0_pay1 (View.ld x1 rM)⟩] rS1.toLoadRect = View.ld (scaleOut x1) rS1 :=
  View.readCov_eq_canon_ld _ _ _ (coverAll _)

set_option maxHeartbeats 2000000 in
/-- The body on whole buffers, at the first point of a row of tiles. -/
theorem kernelRunA (c : Dev nD) (i : grid0.Coords) (arg2 : Memref sig .tc .vmem S512x1024 .f32) (harg2 : arg2.IsWhole) (arg3 : Memref sig .tc .vmem S512x128 .f32) (harg3 : arg3.IsWhole) (arg4 : Memref sig .tc .vmem S1024x3072 .bf16) (harg4 : arg4.IsWhole) (arg5 : Memref sig .tc .vmem S1x3072 .f32) (harg5 : arg5.IsWhole) (arg6 : Memref sig .tc .vmem S512x3072 .bf16) (harg6 : arg6.IsWhole) (arg7 : Memref sig .tc .vmem S512x3072 .bf16) (harg7 : arg7.IsWhole) (arg8 : Memref sig .tc .vmem S512x1024 .i8) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x3072 .bf16) (harg12 : arg12.IsWhole) (arg13 : Memref sig .tc .vmem S512x3072 .bf16) (harg13 : arg13.IsWhole) (arg14 : Memref sig .tc .vmem S512x3072 .f32) (harg14 : arg14.IsWhole)
    (hc1 : k0_cond1 i = 1#1) (hc2 : k0_cond2 i = 1#1) (hc3 : ¬k0_cond3 i = 1#1) (hc4 : ¬k0_cond4 i = 1#1)
    (x0 : Vec F S512x1024 .f32) (x1 : Vec F S512x128 .f32) (x2 : Vec F S1024x3072 .bf16) (x3 : Vec F S1x3072 .f32) (x4 : Vec F S512x3072 .bf16) (x5 : Vec F S512x3072 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (codeOut x0 (scaleOut x1)) ∗ owns (c : Thread nD τ) arg9 fullShare (codeBfOut x0 (scaleOut x1)) ∗ owns (c : Thread nD τ) arg10 fullShare (scaleOut x1) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare (accFirst x0 (scaleOut x1) x2)) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13 arg14 harg14) K := by
    intro E K
    simp only [cc0_down_eq_skeleton]; unfold cc0_down_skel
    simp only [dif_pos hc1, dif_pos hc2, dif_neg hc3, dif_neg hc4]
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    subst hf0 hf1 hf2 hf3 hf4 hf5
    sl_exec
    have e0 : kernelRunA.sl.v14 c arg3 arg10 f1 = View.ld (scaleOut (arg3.view.read (Elt F) f1)) rS0 := ldScale0 arg10.view (arg3.view.read (Elt F) f1)
    have e1 : kernelRunA.sl.v33 c arg3 arg10 f1 = View.ld (scaleOut (arg3.view.read (Elt F) f1)) rS1 := ldScale1 arg10.view (arg3.view.read (Elt F) f1)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr; swap; · iexact H6
      ipureintro
      refine (View.read_writes_eq_canon _ _ _ (cover _ _)).trans ?_
      rw [e0, e1]
      rfl
    isplitl [H7]
    · iexists _; isplitr; swap; · iexact H7
      ipureintro
      refine (View.read_writes_eq_canon _ _ _ (cover _ _)).trans ?_
      unfold kernelRunA.sl.r
      rw [e0, e1]
      rfl
    isplitl [H8]
    · iexists _; isplitr; swap; · iexact H8
      ipureintro
      exact (View.read_writes_eq_canon _ _ _ (coverAll _)).trans rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _; isplitr; swap; · iexact H12
    ipureintro
    refine (View.read_writes_eq_canon _ _ _ (coverY _ _)).trans ?_
    unfold kernelRunA.sl.r
    rw [e0, e1]
    rfl

set_option maxHeartbeats 2000000 in
/-- The body on whole buffers, at the points in between. -/
theorem kernelRunB (c : Dev nD) (i : grid0.Coords) (arg2 : Memref sig .tc .vmem S512x1024 .f32) (harg2 : arg2.IsWhole) (arg3 : Memref sig .tc .vmem S512x128 .f32) (harg3 : arg3.IsWhole) (arg4 : Memref sig .tc .vmem S1024x3072 .bf16) (harg4 : arg4.IsWhole) (arg5 : Memref sig .tc .vmem S1x3072 .f32) (harg5 : arg5.IsWhole) (arg6 : Memref sig .tc .vmem S512x3072 .bf16) (harg6 : arg6.IsWhole) (arg7 : Memref sig .tc .vmem S512x3072 .bf16) (harg7 : arg7.IsWhole) (arg8 : Memref sig .tc .vmem S512x1024 .i8) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x3072 .bf16) (harg12 : arg12.IsWhole) (arg13 : Memref sig .tc .vmem S512x3072 .bf16) (harg13 : arg13.IsWhole) (arg14 : Memref sig .tc .vmem S512x3072 .f32) (harg14 : arg14.IsWhole)
    (hc1 : ¬k0_cond1 i = 1#1) (hc2 : ¬k0_cond2 i = 1#1) (hc3 : k0_cond3 i = 1#1) (hc4 : ¬k0_cond4 i = 1#1)
    (x0 : Vec F S512x1024 .f32) (x1 : Vec F S512x128 .f32) (x2 : Vec F S1024x3072 .bf16) (x3 : Vec F S1x3072 .f32) (x4 : Vec F S512x3072 .bf16) (x5 : Vec F S512x3072 .bf16) (s : Vec F S512x1 .f32) (acc : Vec F S512x3072 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare s ∗ (∃ d, owns (c : Thread nD τ) arg11 fullShare d) ∗ (∃ d, owns (c : Thread nD τ) arg12 fullShare d) ∗ (∃ d, owns (c : Thread nD τ) arg13 fullShare d) ∗ owns (c : Thread nD τ) arg14 fullShare acc
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (codeOut x0 s) ∗ owns (c : Thread nD τ) arg9 fullShare (codeBfOut x0 s) ∗ owns (c : Thread nD τ) arg10 fullShare s ∗ (∃ d, owns (c : Thread nD τ) arg11 fullShare d) ∗ (∃ d, owns (c : Thread nD τ) arg12 fullShare d) ∗ (∃ d, owns (c : Thread nD τ) arg13 fullShare d) ∗ owns (c : Thread nD τ) arg14 fullShare (accNext x0 s x2 acc)) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13 arg14 harg14) K := by
    intro E K
    simp only [cc0_down_eq_skeleton]; unfold cc0_down_skel
    simp only [dif_neg hc1, dif_neg hc2, dif_pos hc3, dif_neg hc4]
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%d9, %f9, -, H9⟩, ⟨%d10, %f10, -, H10⟩, ⟨%d11, %f11, -, H11⟩, ⟨%f12, %hf12, H12⟩, Hk⟩
    subst hf0 hf1 hf2 hf3 hf4 hf5 hf8 hf12
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr; swap; · iexact H6
      ipureintro
      exact (View.read_writes_eq_canon _ _ _ (cover _ _)).trans rfl
    isplitl [H7]
    · iexists _; isplitr; swap; · iexact H7
      ipureintro
      exact (View.read_writes_eq_canon _ _ _ (cover _ _)).trans rfl
    isplitl [H8]
    · iexists f8; isplitr; · ipureintro; rfl
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _; isplitr; swap; · iexact H12
    ipureintro
    exact (View.read_writes_eq_canon _ _ _ (coverY _ _)).trans rfl

set_option maxHeartbeats 2000000 in
/-- The body on whole buffers, at the last point. -/
theorem kernelRunC (c : Dev nD) (i : grid0.Coords) (arg2 : Memref sig .tc .vmem S512x1024 .f32) (harg2 : arg2.IsWhole) (arg3 : Memref sig .tc .vmem S512x128 .f32) (harg3 : arg3.IsWhole) (arg4 : Memref sig .tc .vmem S1024x3072 .bf16) (harg4 : arg4.IsWhole) (arg5 : Memref sig .tc .vmem S1x3072 .f32) (harg5 : arg5.IsWhole) (arg6 : Memref sig .tc .vmem S512x3072 .bf16) (harg6 : arg6.IsWhole) (arg7 : Memref sig .tc .vmem S512x3072 .bf16) (harg7 : arg7.IsWhole) (arg8 : Memref sig .tc .vmem S512x1024 .i8) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x3072 .bf16) (harg12 : arg12.IsWhole) (arg13 : Memref sig .tc .vmem S512x3072 .bf16) (harg13 : arg13.IsWhole) (arg14 : Memref sig .tc .vmem S512x3072 .f32) (harg14 : arg14.IsWhole)
    (hc1 : ¬k0_cond1 i = 1#1) (hc2 : ¬k0_cond2 i = 1#1) (hc3 : ¬k0_cond3 i = 1#1) (hc4 : k0_cond4 i = 1#1)
    (x0 : Vec F S512x1024 .f32) (x1 : Vec F S512x128 .f32) (x2 : Vec F S1024x3072 .bf16) (x3 : Vec F S1x3072 .f32) (x4 : Vec F S512x3072 .bf16) (x5 : Vec F S512x3072 .bf16) (s : Vec F S512x1 .f32) (acc : Vec F S512x3072 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare s ∗ (∃ d, owns (c : Thread nD τ) arg11 fullShare d) ∗ (∃ d, owns (c : Thread nD τ) arg12 fullShare d) ∗ (∃ d, owns (c : Thread nD τ) arg13 fullShare d) ∗ owns (c : Thread nD τ) arg14 fullShare acc
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (codeOut x0 s) ∗ owns (c : Thread nD τ) arg9 fullShare (codeBfOut x0 s) ∗ owns (c : Thread nD τ) arg10 fullShare s ∗ owns (c : Thread nD τ) arg11 fullShare (lossOut x0 s x2 acc x3 x4 x5) ∗ owns (c : Thread nD τ) arg12 fullShare (dyaOut x0 s x2 acc x3 x4 x5) ∗ owns (c : Thread nD τ) arg13 fullShare (dywOut x0 s x2 acc x3 x4 x5) ∗ (∃ d, owns (c : Thread nD τ) arg14 fullShare d)) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13 arg14 harg14) K := by
    intro E K
    simp only [cc0_down_eq_skeleton]; unfold cc0_down_skel
    simp only [dif_neg hc1, dif_neg hc2, dif_neg hc3, dif_pos hc4]
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%d9, %f9, -, H9⟩, ⟨%d10, %f10, -, H10⟩, ⟨%d11, %f11, -, H11⟩, ⟨%f12, %hf12, H12⟩, Hk⟩
    subst hf0 hf1 hf2 hf3 hf4 hf5 hf8 hf12
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr; swap; · iexact H6
      ipureintro
      exact (View.read_writes_eq_canon _ _ _ (cover _ _)).trans rfl
    isplitl [H7]
    · iexists _; isplitr; swap; · iexact H7
      ipureintro
      exact (View.read_writes_eq_canon _ _ _ (cover _ _)).trans rfl
    isplitl [H8]
    · iexists f8; isplitr; · ipureintro; rfl
      iexact H8
    isplitl [H9]
    · iexists _; isplitr; swap; · iexact H9
      ipureintro
      exact (View.read_writes_eq_canon _ _ _ (coverS _ _)).trans rfl
    isplitl [H10]
    · iexists _; isplitr; swap; · iexact H10
      ipureintro
      exact (View.read_writes_eq_canon _ _ _ (coverY _ _)).trans rfl
    isplitl [H11]
    · iexists _; isplitr; swap; · iexact H11
      ipureintro
      exact (View.read_writes_eq_canon _ _ _ (coverY _ _)).trans rfl
    iexists _, _; isplitr; swap; · iexact H12
    ipureintro; rfl

end Cert.DownIdeal.Gen

end
-- ==== Proof.DownVal.lean ====
/-
  THE DOWN PROJECTION'S CALL, one grid point: what each buffer's payload is over the extended reals, in terms of the tile of
  activations, its scales, the codes' partial products and the running sums.
-/
module

public import proofs.«01_k».proof.Proof.DownRun
public import proofs.«01_k».proof.Proof.Quant
public import Idealize.ShloMosaic.Lib.Pipeline.ValueKit
public import Idealize.ShloMosaic.Lib.Claim
public import Idealize.ShloMosaic.PureOps.Ideal.Laws

@[expose] public section

set_option maxRecDepth 16384

noncomputable section

namespace Cert.Math

open Idealize.ShloMosaic

/-- The scale of each row from the greatest magnitudes of its lanes, one column. -/
def laneScale {T L : ℕ} (a : FVec Ideal ⟨2, ![T, L]⟩ .f32) : FVec Ideal ⟨2, ![T, 1]⟩ .f32 := fun i => scaleOf (greatest fun l : Fin L => a (ix2 (i 0) l))

/-- The code of one activation at its row's scale. -/
def codeT {T K : ℕ} (x : FVec Ideal ⟨2, ![T, K]⟩ .f32) (s : FVec Ideal ⟨2, ![T, 1]⟩ .f32) (r : Fin T) (k : Fin K) : EReal := codeOf (x (ix2 r k)) (s (ix2 r 0))

/-- The product of the codes with the weights. -/
def prodT {T K N : ℕ} (x : FVec Ideal ⟨2, ![T, K]⟩ .f32) (s : FVec Ideal ⟨2, ![T, 1]⟩ .f32) (w : FVec Ideal ⟨2, ![K, N]⟩ .bf16) (r : Fin T) (d : Fin N) : EReal :=
  ∑ k : Fin K, codeT x s r k * (w (ix2 k d) : EReal)

/-- The error of a product `p`, scaled, against the target. -/
def errT {T N : ℕ} (s : FVec Ideal ⟨2, ![T, 1]⟩ .f32) (g : FVec Ideal ⟨2, ![1, N]⟩ .f32) (y : FVec Ideal ⟨2, ![T, N]⟩ .bf16) (r : Fin T) (p : Fin N → EReal) (d : Fin N) : EReal :=
  p d * ((s (ix2 r 0) : EReal) * (g (ix2 0 d) : EReal)) - (y (ix2 r d) : EReal)

/-- The error weighed by the square of `h`. -/
def weighT {T N : ℕ} (s : FVec Ideal ⟨2, ![T, 1]⟩ .f32) (g : FVec Ideal ⟨2, ![1, N]⟩ .f32) (y h : FVec Ideal ⟨2, ![T, N]⟩ .bf16) (r : Fin T) (p : Fin N → EReal) (d : Fin N) : EReal :=
  ((h (ix2 r d) : EReal) * (h (ix2 r d) : EReal)) * errT s g y r p d

/-- One row's loss: its weighed squared errors' sum, times the constant. -/
def lossT {T N : ℕ} (s : FVec Ideal ⟨2, ![T, 1]⟩ .f32) (g : FVec Ideal ⟨2, ![1, N]⟩ .f32) (y h : FVec Ideal ⟨2, ![T, N]⟩ .bf16) (r : Fin T) (p : Fin N → EReal) : EReal :=
  (∑ d : Fin N, weighT s g y h r p d * errT s g y r p d) * Ideal.ofBits .f32 0x392AAAAB#32

/-- The loss's derivative in the product, scaled by `b`. -/
def slopeOf (v b : EReal) : EReal := ((Ideal.ofBits .f32 0x40000000#32 * v) * Ideal.ofBits .f32 0x392AAAAB#32) * b

/-- The results over whole arrays: activations `x`, greatest magnitudes `a`, weights `w` at scales `g`, target `y`, weighing `h`. -/
def codeA {T K L : ℕ} (x : FVec Ideal ⟨2, ![T, K]⟩ .f32) (a : FVec Ideal ⟨2, ![T, L]⟩ .f32) (i : (⟨2, ![T, K]⟩ : Shape).Idx) : EReal := codeT x (laneScale a) (i 0) (i 1)

def code8A {T K L : ℕ} (x : FVec Ideal ⟨2, ![T, K]⟩ .f32) (a : FVec Ideal ⟨2, ![T, L]⟩ .f32) (i : (⟨2, ![T, K]⟩ : Shape).Idx) : BitVec 8 :=
  FloatOps.fptosi (F := Ideal) (φ := .f32) 8 (codeA x a i)

section

variable {T K L N : ℕ} (x : FVec Ideal ⟨2, ![T, K]⟩ .f32) (a : FVec Ideal ⟨2, ![T, L]⟩ .f32) (w : FVec Ideal ⟨2, ![K, N]⟩ .bf16) (g : FVec Ideal ⟨2, ![1, N]⟩ .f32)
  (y h : FVec Ideal ⟨2, ![T, N]⟩ .bf16)

def lossA (i : (⟨2, ![T, 1]⟩ : Shape).Idx) : EReal := lossT (laneScale a) g y h (i 0) (prodT x (laneScale a) w (i 0))

def dyaA (i : (⟨2, ![T, N]⟩ : Shape).Idx) : EReal :=
  slopeOf (weighT (laneScale a) g y h (i 0) (prodT x (laneScale a) w (i 0)) (i 1)) (laneScale a (ix2 (i 0) 0))

def dywA (i : (⟨2, ![T, N]⟩ : Shape).Idx) : EReal :=
  slopeOf (weighT (laneScale a) g y h (i 0) (prodT x (laneScale a) w (i 0)) (i 1)) (g (ix2 0 (i 1)))

end

/-- The sum of each row of a matrix, as a reduction along the rows takes it. -/
theorem reduceAdd_apply {T D : ℕ} (v : FVec Ideal ⟨2, ![T, D]⟩ .f32) (h : (⟨2, ![T, D]⟩ : Shape).Reduces [1] ⟨1, ![T]⟩) (hφ : FKind.Formats .f32) (hacc) (q : Fin T) :
    multiReduction .add [1] ⟨1, ![T]⟩ v 0x00000000#32 h hφ hacc (ix1 q) = ∑ k : Fin D, (v (ix2 q k) : EReal) := by
  rw [Ideal.multiReduction_add_single]
  refine Finset.sum_congr rfl fun k _ => ?_
  show v _ = v _
  congr 1
  funext a
  match a with
  | ⟨0, _⟩ => rfl
  | ⟨1, _⟩ => rfl

end Cert.Math

namespace Cert.DownIdeal.Gen

open Cert.DownIdeal Idealize.ShloMosaic Idealize.ShloMosaic.TcCoe Idealize.SL.Sem Cert.Math

/-! ## The payloads -/

theorem pay11_apply (s : Vec Ideal S256x1 .f32) (x : Vec Ideal S256x1024 .f32) (q : Fin 256) (j : Fin 1024) : k0_pay11 s x (ix2 q j) = codeT x s q j := by
  pointwise [codeT, codeOf, k0_pay11]

theorem scale_apply (g : FVec Ideal S512 .f32) (q : Fin 512) (z : Fin 1) :
    select (cmpf .ogt (shapeCast S512x1 g shapeCasts_S512_S512x1) (broadcast S512x1 (Scalar.ofBits (F := Ideal) .f32 0x00000000#32)))
      (divf (shapeCast S512x1 g shapeCasts_S512_S512x1) (broadcast S512x1 (Scalar.ofBits (F := Ideal) .f32 0x42FE0000#32)))
      (broadcast S512x1 (Scalar.ofBits (F := Ideal) .f32 0x3F800000#32)) (ix2 q z) = scaleOf (g (ix1 q)) := by
  pointwise [scaleOf]

theorem pay1_apply (x : Vec Ideal S512x128 .f32) (q : Fin 512) (z : Fin 1) : k0_pay1 x (ix2 q z) = laneScale x (ix2 q z) := by
  unfold k0_pay1
  exact (scale_apply _ q z).trans (congrArg scaleOf (reduceMax_apply x reduces_S512x128_S512 (.inl rfl) rfl q))

theorem mm_apply (a : FVec Ideal S256x1024 .bf16) (w : FVec Ideal S1024x3072 .bf16) (q : Fin 256) (d : Fin 3072) :
    matmul dot_S256x1024_S1024x3072_S256x3072_1_0_0_1_n_n none a w (constant S256x3072 .f32 0x00000000#32) (ix2 q d)
      = ∑ k : Fin 1024, (a (ix2 q k) : EReal) * (w (ix2 k d) : EReal) := by
  pointwise []

theorem cast_apply (v : FVec Ideal S256x3072 .f32) (q : Fin 256) (d : Fin 3072) : shapeCast S256x3072 v shapeCasts_S256x3072_S256x3072 (ix2 q d) = v (ix2 q d) := by
  pointwise []

theorem castS_apply (v : FVec Ideal S256x1 .f32) (q : Fin 256) (z : Fin 1) : shapeCast S256x1 v shapeCasts_S256x1_S256x1 (ix2 q z) = v (ix2 q z) := by
  pointwise []

theorem prod_apply (s : Vec Ideal S256x1 .f32) (x : Vec Ideal S256x1024 .f32) (w : Vec Ideal S1024x3072 .bf16) (q : Fin 256) (d : Fin 3072) :
    matmul (φ₂ := .bf16) dot_S256x1024_S1024x3072_S256x3072_1_0_0_1_n_n none (k0_pay13 s x) w (constant S256x3072 .f32 0x00000000#32) (ix2 q d) = prodT x s w q d := by
  rw [mm_apply]
  unfold prodT
  exact Finset.sum_congr rfl fun k _ => congrArg (fun v : EReal => v * (w (ix2 k d) : EReal)) (pay11_apply s x q k)

theorem pay14_apply (s : Vec Ideal S256x1 .f32) (x : Vec Ideal S256x1024 .f32) (w : Vec Ideal S1024x3072 .bf16) (q : Fin 256) (d : Fin 3072) :
    k0_pay14 s x w (ix2 q d) = prodT x s w q d := by
  unfold k0_pay14
  exact (cast_apply _ q d).trans (prod_apply s x w q d)

theorem pay21_apply (s : Vec Ideal S256x1 .f32) (x : Vec Ideal S256x1024 .f32) (w : Vec Ideal S1024x3072 .bf16) (v : Vec Ideal S256x3072 .f32) (q : Fin 256) (d : Fin 3072) :
    k0_pay21 s x w v (ix2 q d) = prodT x s w q d + (v (ix2 q d) : EReal) := by
  unfold k0_pay21
  exact (cast_apply _ q d).trans (congrArg (fun u : EReal => u + (v (ix2 q d) : EReal)) (prod_apply s x w q d))

theorem err_apply (p : FVec Ideal S256x3072 .f32) (s : FVec Ideal S256x1 .f32) (g : FVec Ideal S1x3072 .f32) (y : FVec Ideal S256x3072 .bf16) (q : Fin 256) (d : Fin 3072) :
    subf (mulf p (mulf (broadcastTo S256x3072 s broadcasts_S256x1_S256x3072) (broadcastTo S256x3072 g broadcasts_S1x3072_S256x3072))) (extf .f32 y bitsLt_bf16_f32) (ix2 q d)
      = errT s g y q (fun d => p (ix2 q d)) d := by
  pointwise [errT]

theorem slopeA_apply (v : FVec Ideal S256x3072 .f32) (s : FVec Ideal S256x1 .f32) (q : Fin 256) (d : Fin 3072) :
    k0_pay32 s v (ix2 q d) = slopeOf (v (ix2 q d)) (s (ix2 q 0)) := by
  pointwise [slopeOf, k0_pay32, k0_pay31]

theorem slopeW_apply (v : FVec Ideal S256x3072 .f32) (g : FVec Ideal S1x3072 .f32) (q : Fin 256) (d : Fin 3072) :
    k0_pay33 g v (ix2 q d) = slopeOf (v (ix2 q d)) (g (ix2 0 d)) := by
  pointwise [slopeOf, k0_pay33, k0_pay31]

theorem loss_apply (v : FVec Ideal S256 .f32) (q : Fin 256) (z : Fin 1) :
    mulf (shapeCast S256x1 v shapeCasts_S256_S256x1) (broadcast S256x1 (Scalar.ofBits (F := Ideal) .f32 0x392AAAAB#32)) (ix2 q z)
      = (v (ix1 q) : EReal) * Ideal.ofBits .f32 0x392AAAAB#32 := by
  pointwise []

section

variable (s : Vec Ideal S256x1 .f32) (x : Vec Ideal S256x1024 .f32) (w : Vec Ideal S1024x3072 .bf16) (v : Vec Ideal S256x3072 .f32)
  (g : Vec Ideal S1x3072 .f32) (y h : Vec Ideal S256x3072 .bf16)

/-- The whole product of one row at the last point. -/
abbrev lastProd (q : Fin 256) : Fin 3072 → EReal := fun d => prodT x s w q d + (v (ix2 q d) : EReal)

theorem pay24_apply (q : Fin 256) : k0_pay24 s (ix2 q 0) = s (ix2 q 0) := castS_apply s q 0

theorem pay28_apply (q : Fin 256) (d : Fin 3072) : k0_pay28 s x w v g y (ix2 q d) = errT s g y q (lastProd s x w v q) d := by
  unfold k0_pay28
  refine (err_apply _ _ _ _ q d).trans ?_
  unfold errT
  rw [pay24_apply]
  exact congrArg (fun u : EReal => (u + (v (ix2 q d) : EReal)) * ((s (ix2 q 0) : EReal) * (g (ix2 0 d) : EReal)) - (y (ix2 q d) : EReal)) (prod_apply s x w q d)

theorem pay29_apply (q : Fin 256) (d : Fin 3072) : k0_pay29 s x w v g y h (ix2 q d) = weighT s g y h q (lastProd s x w v q) d :=
  congrArg (fun u : EReal => ((h (ix2 q d) : EReal) * (h (ix2 q d) : EReal)) * u) (pay28_apply s x w v g y q d)

theorem pay30_apply (q : Fin 256) (z : Fin 1) : k0_pay30 s x w v g y h (ix2 q z) = lossT s g y h q (lastProd s x w v q) := by
  unfold k0_pay30
  refine (loss_apply _ q z).trans ?_
  unfold lossT
  refine congrArg (fun u : EReal => u * Ideal.ofBits .f32 0x392AAAAB#32) ((reduceAdd_apply _ reduces_S256x3072_S256 (.inl rfl) rfl q).trans ?_)
  exact Finset.sum_congr rfl fun d _ => congrArg₂ (fun a b : EReal => a * b) (pay29_apply s x w v g y h q d) (pay28_apply s x w v g y q d)

theorem pay32_apply (q : Fin 256) (d : Fin 3072) :
    k0_pay32 (k0_pay24 s) (k0_pay29 s x w v g y h) (ix2 q d) = slopeOf (weighT s g y h q (lastProd s x w v q) d) (s (ix2 q 0)) :=
  (slopeA_apply _ _ q d).trans (by rw [pay29_apply, pay24_apply])

theorem pay33_apply (q : Fin 256) (d : Fin 3072) :
    k0_pay33 g (k0_pay29 s x w v g y h) (ix2 q d) = slopeOf (weighT s g y h q (lastProd s x w v q) d) (g (ix2 0 d)) :=
  (slopeW_apply _ _ q d).trans (by rw [pay29_apply])

end

/-! ## The halves of a buffer read at a place -/

/-- Reading 256 rows from row `o` of a buffer on. -/
theorem ld_rows {e : EltTy} {n : ℕ} (o : ℕ) (inb) (x : Vec Ideal ⟨2, ![512, n]⟩ e) (a : Fin 256) (b : Fin n) (q : Fin 512) (hq : q.val = o + a.val) :
    View.ld x (Rect.unit (s := ⟨2, ![512, n]⟩) ![o, 0] ![256, n] inb) (ix2 a b) = x (ix2 q b) := by
  refine congrArg x (funext fun i => Fin.ext ?_)
  match i with
  | ⟨0, _⟩ => exact (Rect.idx_unit_val (s := ⟨2, ![512, n]⟩) ![o, 0] ![256, n] inb (ix2 a b) 0).trans hq.symm
  | ⟨1, _⟩ => exact (Rect.idx_unit_val (s := ⟨2, ![512, n]⟩) ![o, 0] ![256, n] inb (ix2 a b) 1).trans (Nat.zero_add _)

theorem ldX0 {e : EltTy} (x : Vec Ideal S512x1024 e) (a : Fin 256) (q : Fin 512) (hq : q.val = a.val) (b : Fin 1024) : View.ld x rLo (ix2 a b) = x (ix2 q b) :=
  ld_rows 0 _ x a b q (hq.trans (Nat.zero_add _).symm)
theorem ldX1 {e : EltTy} (x : Vec Ideal S512x1024 e) (a : Fin 256) (q : Fin 512) (hq : q.val = 256 + a.val) (b : Fin 1024) : View.ld x rHi (ix2 a b) = x (ix2 q b) :=
  ld_rows 256 _ x a b q hq
theorem ldY0 {e : EltTy} (x : Vec Ideal S512x3072 e) (a : Fin 256) (q : Fin 512) (hq : q.val = a.val) (b : Fin 3072) : View.ld x rY0 (ix2 a b) = x (ix2 q b) :=
  ld_rows 0 _ x a b q (hq.trans (Nat.zero_add _).symm)
theorem ldY1 {e : EltTy} (x : Vec Ideal S512x3072 e) (a : Fin 256) (q : Fin 512) (hq : q.val = 256 + a.val) (b : Fin 3072) : View.ld x rY1 (ix2 a b) = x (ix2 q b) :=
  ld_rows 256 _ x a b q hq
theorem ldS0 {e : EltTy} (x : Vec Ideal S512x1 e) (a : Fin 256) (q : Fin 512) (hq : q.val = a.val) (b : Fin 1) : View.ld x rS0 (ix2 a b) = x (ix2 q b) :=
  ld_rows 0 _ x a b q (hq.trans (Nat.zero_add _).symm)
theorem ldS1 {e : EltTy} (x : Vec Ideal S512x1 e) (a : Fin 256) (q : Fin 512) (hq : q.val = 256 + a.val) (b : Fin 1) : View.ld x rS1 (ix2 a b) = x (ix2 q b) :=
  ld_rows 256 _ x a b q hq

theorem hz : (![0, 0] : Fin 2 → Nat) = fun _ => 0 := funext fun a => by fin_cases a <;> rfl

theorem ldW {e : EltTy} (x : Vec Ideal S1024x3072 e) (a : Fin 1024) (b : Fin 3072) : View.ld x rW (ix2 a b) = x (ix2 a b) :=
  congrFun (View.ld_unit_zero (S := S1024x3072) hz _ x) _
theorem ldG {e : EltTy} (x : Vec Ideal S1x3072 e) (a : Fin 1) (b : Fin 3072) : View.ld x rG (ix2 a b) = x (ix2 a b) :=
  congrFun (View.ld_unit_zero (S := S1x3072) hz _ x) _
theorem ldM (x : Vec Ideal S512x128 .f32) : View.ld x rM = x := View.ld_unit_zero (S := S512x128) hz _ x

/-! ## The tiles -/

variable (x0 : Vec Ideal S512x1024 .f32) (s : Vec Ideal S512x1 .f32) (x2 : Vec Ideal S1024x3072 .bf16) (acc : Vec Ideal S512x3072 .f32)
  (x3 : Vec Ideal S1x3072 .f32) (x4 x5 : Vec Ideal S512x3072 .bf16)

theorem scaleOut_eq (x1 : Vec Ideal S512x128 .f32) (q : Fin 512) (z : Fin 1) : scaleOut x1 (ix2 q z) = laneScale x1 (ix2 q z) := by
  unfold scaleOut
  rw [View.canon_unit_zero hz, ldM]
  exact pay1_apply x1 q z

/-- An index of a half, by its coordinates. -/
theorem half_ix {n : ℕ} (x : (⟨2, ![256, n]⟩ : Shape).Idx) : ∃ (a : Fin 256) (b : Fin n), x = ix2 a b :=
  ⟨x 0, x 1, by funext a; match a with | ⟨0, _⟩ => rfl | ⟨1, _⟩ => rfl⟩

theorem codeBfOut_eq (q : Fin 512) (j : Fin 1024) : codeBfOut x0 s (ix2 q j) = codeT x0 s q j := by
  unfold codeBfOut
  canon_tiles x h
  · obtain ⟨a, b, rfl⟩ := half_ix x
    obtain rfl : j = b := Fin.ext h1
    refine (pay11_apply _ _ a j).trans ?_
    simp only [codeT, ldX1 x0 a q h0, ldS1 s a q h0]
  · obtain ⟨a, b, rfl⟩ := half_ix x
    obtain rfl : j = b := Fin.ext h1
    refine (pay11_apply _ _ a j).trans ?_
    simp only [codeT, ldX0 x0 a q h0, ldS0 s a q h0]

theorem codeOut_eq (q : Fin 512) (j : Fin 1024) : codeOut x0 s (ix2 q j) = FloatOps.fptosi (F := Ideal) (φ := .f32) 8 (codeT x0 s q j) := by
  unfold codeOut
  canon_tiles x h
  · obtain ⟨a, b, rfl⟩ := half_ix x
    obtain rfl : j = b := Fin.ext h1
    refine (congrArg (FloatOps.fptosi (F := Ideal) (φ := .f32) 8) (pay11_apply _ _ a j)).trans ?_
    simp only [codeT, ldX1 x0 a q h0, ldS1 s a q h0]
  · obtain ⟨a, b, rfl⟩ := half_ix x
    obtain rfl : j = b := Fin.ext h1
    refine (congrArg (FloatOps.fptosi (F := Ideal) (φ := .f32) 8) (pay11_apply _ _ a j)).trans ?_
    simp only [codeT, ldX0 x0 a q h0, ldS0 s a q h0]

theorem accFirst_eq (q : Fin 512) (j : Fin 3072) : accFirst x0 s x2 (ix2 q j) = prodT x0 s x2 q j := by
  unfold accFirst
  canon_tiles x h
  · obtain ⟨a, b, rfl⟩ := half_ix x
    obtain rfl : j = b := Fin.ext h1
    refine (pay14_apply _ _ _ a j).trans ?_
    simp only [prodT, codeT, ldX1 x0 a q h0, ldS1 s a q h0, ldW x2]
  · obtain ⟨a, b, rfl⟩ := half_ix x
    obtain rfl : j = b := Fin.ext h1
    refine (pay14_apply _ _ _ a j).trans ?_
    simp only [prodT, codeT, ldX0 x0 a q h0, ldS0 s a q h0, ldW x2]

theorem accNext_eq (q : Fin 512) (j : Fin 3072) : accNext x0 s x2 acc (ix2 q j) = prodT x0 s x2 q j + (acc (ix2 q j) : EReal) := by
  unfold accNext
  canon_tiles x h
  · obtain ⟨a, b, rfl⟩ := half_ix x
    obtain rfl : j = b := Fin.ext h1
    refine (pay21_apply _ _ _ _ a j).trans ?_
    simp only [prodT, codeT, ldX1 x0 a q h0, ldS1 s a q h0, ldY1 acc a q h0, ldW x2]
  · obtain ⟨a, b, rfl⟩ := half_ix x
    obtain rfl : j = b := Fin.ext h1
    refine (pay21_apply _ _ _ _ a j).trans ?_
    simp only [prodT, codeT, ldX0 x0 a q h0, ldS0 s a q h0, ldY0 acc a q h0, ldW x2]

theorem lossOut_eq (q : Fin 512) (z : Fin 1) : lossOut x0 s x2 acc x3 x4 x5 (ix2 q z)
    = lossT s x3 x4 x5 q (fun d => prodT x0 s x2 q d + (acc (ix2 q d) : EReal)) := by
  unfold lossOut
  canon_tiles x h
  · obtain ⟨a, b, rfl⟩ := half_ix x
    obtain rfl : z = b := Fin.ext h1
    refine (pay30_apply _ _ _ _ _ _ _ a z).trans ?_
    simp only [lastProd, lossT, weighT, errT, prodT, codeT, ldX1 x0 a q h0, ldS1 s a q h0, ldY1 acc a q h0, ldY1 x4 a q h0, ldY1 x5 a q h0, ldW x2, ldG x3]
  · obtain ⟨a, b, rfl⟩ := half_ix x
    obtain rfl : z = b := Fin.ext h1
    refine (pay30_apply _ _ _ _ _ _ _ a z).trans ?_
    simp only [lastProd, lossT, weighT, errT, prodT, codeT, ldX0 x0 a q h0, ldS0 s a q h0, ldY0 acc a q h0, ldY0 x4 a q h0, ldY0 x5 a q h0, ldW x2, ldG x3]

theorem dyaOut_eq (q : Fin 512) (j : Fin 3072) : dyaOut x0 s x2 acc x3 x4 x5 (ix2 q j)
    = slopeOf (weighT s x3 x4 x5 q (fun d => prodT x0 s x2 q d + (acc (ix2 q d) : EReal)) j) (s (ix2 q 0)) := by
  unfold dyaOut
  canon_tiles x h
  · obtain ⟨a, b, rfl⟩ := half_ix x
    obtain rfl : j = b := Fin.ext h1
    refine (pay32_apply _ _ _ _ _ _ _ a j).trans ?_
    simp only [lastProd, lossT, weighT, errT, prodT, codeT, ldX1 x0 a q h0, ldS1 s a q h0, ldY1 acc a q h0, ldY1 x4 a q h0, ldY1 x5 a q h0, ldW x2, ldG x3]
  · obtain ⟨a, b, rfl⟩ := half_ix x
    obtain rfl : j = b := Fin.ext h1
    refine (pay32_apply _ _ _ _ _ _ _ a j).trans ?_
    simp only [lastProd, lossT, weighT, errT, prodT, codeT, ldX0 x0 a q h0, ldS0 s a q h0, ldY0 acc a q h0, ldY0 x4 a q h0, ldY0 x5 a q h0, ldW x2, ldG x3]

theorem dywOut_eq (q : Fin 512) (j : Fin 3072) : dywOut x0 s x2 acc x3 x4 x5 (ix2 q j)
    = slopeOf (weighT s x3 x4 x5 q (fun d => prodT x0 s x2 q d + (acc (ix2 q d) : EReal)) j) (x3 (ix2 0 j)) := by
  unfold dywOut
  canon_tiles x h
  · obtain ⟨a, b, rfl⟩ := half_ix x
    obtain rfl : j = b := Fin.ext h1
    refine (pay33_apply _ _ _ _ _ _ _ a j).trans ?_
    simp only [lastProd, lossT, weighT, errT, prodT, codeT, ldX1 x0 a q h0, ldS1 s a q h0, ldY1 acc a q h0, ldY1 x4 a q h0, ldY1 x5 a q h0, ldW x2, ldG x3]
  · obtain ⟨a, b, rfl⟩ := half_ix x
    obtain rfl : j = b := Fin.ext h1
    refine (pay33_apply _ _ _ _ _ _ _ a j).trans ?_
    simp only [lastProd, lossT, weighT, errT, prodT, codeT, ldX0 x0 a q h0, ldS0 s a q h0, ldY0 acc a q h0, ldY0 x4 a q h0, ldY0 x5 a q h0, ldW x2, ldG x3]

end Cert.DownIdeal.Gen

end
-- ==== Proof.DownStep.lean ====
/-
  THE DOWN PROJECTION'S CALL over the extended reals, one grid point: what its results are, and how a point's block of columns
  takes a tile's running sums one step further.
-/
module

public import proofs.«01_k».proof.Proof.DownVal
public import proofs.«01_k».proof.Proof.Gen.DownIdeal.Frame
public import proofs.«01_k».proof.Proof.Gen.DownIdeal.Skeleton
public import proofs.«01_k».proof.Proof.Gen.DownIdeal.Launch
public import proofs.«01_k».proof.Proof.Gen.DownIdeal.Points
public import Idealize.ShloMosaic.Lib.Claim
public import Idealize.ShloMosaic.Lib.Pipeline.ArrRel
public import Idealize.ShloMosaic.Lib.Pipeline.DatRel

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationRel cellOf)
open Cert.Math

local notation "𝕄" => MT nD τ sig Unit (Elt Ideal) ℕ (UR sig nD τ) ℕ

variable (m : (ℓ : Loc nD τ sig) → Buf (Elt Ideal) ℓ) (ρ : Dev nD → PrngReg)

/-! ## What each result holds at the end -/

/-- The scales, the codes and the whole product. -/
def scaleM (c : Dev nD) : FVec Ideal S6144x1 .f32 := laneScale (m ((c : Thread nD τ).loc main_arg1))
def codeM (c : Dev nD) : S6144x8192.Idx → EReal := codeA (m ((c : Thread nD τ).loc main_arg0)) (m ((c : Thread nD τ).loc main_arg1))
def code8M (c : Dev nD) : S6144x8192.Idx → BitVec 8 := code8A (m ((c : Thread nD τ).loc main_arg0)) (m ((c : Thread nD τ).loc main_arg1))

/-- The losses and the two scaled gradients. -/
def lossM (c : Dev nD) : S6144x1.Idx → EReal := lossA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
def dyaM (c : Dev nD) : S6144x3072.Idx → EReal := dyaA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
def dywM (c : Dev nD) : S6144x3072.Idx → EReal := dywA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- One term of the product of row `r` and column `d`, zero past the last. -/
def termM (c : Dev nD) (r : Fin 6144) (d : Fin 3072) (i : ℕ) : EReal :=
  if h : i < 8192 then codeM m c (ix2 r ⟨i, h⟩) * ((m ((c : Thread nD τ).loc main_arg2)) (ix2 (⟨i, h⟩ : Fin 8192) d) : EReal) else 0

/-- The product over the first `n` columns. -/
def partM (c : Dev nD) (n : ℕ) (r : Fin 6144) (d : Fin 3072) : EReal := ∑ i ∈ Finset.range n, termM m c r d i

/-- Over all of them it is the whole product. -/
theorem part_all (c : Dev nD) (r : Fin 6144) (d : Fin 3072) :
    partM m c 8192 r d = prodT (m ((c : Thread nD τ).loc main_arg0)) (laneScale (m ((c : Thread nD τ).loc main_arg1))) (m ((c : Thread nD τ).loc main_arg2)) r d := by
  unfold partM prodT
  rw [Finset.sum_range]
  refine Finset.sum_congr rfl fun k _ => ?_
  unfold termM
  rw [dif_pos k.isLt]
  rfl

/-! ## The grid -/

/-- The windows' index maps, every point at once. -/
theorem idx : ∀ t : Fin cfg0.N, win0_0.index t = ![t.val / 8, t.val % 8] ∧ win0_1.index t = ![t.val / 8, 0] ∧ win0_2.index t = ![t.val % 8, 0]
    ∧ win0_3.index t = ![0, 0] ∧ win0_4.index t = ![t.val / 8, 0] ∧ win0_5.index t = ![t.val / 8, 0]
    ∧ win0_6.index t = ![t.val / 8, t.val % 8] ∧ win0_7.index t = ![t.val / 8, t.val % 8] ∧ win0_8.index t = ![t.val / 8, 0]
    ∧ win0_9.index t = ![t.val / 8, 0] ∧ win0_10.index t = ![t.val / 8, 0] ∧ win0_11.index t = ![t.val / 8, 0] :=
  (by decide +kernel : ∀ t : Fin grid0.N, _)

theorem lt_N (t : Fin cfg0.N) : t.val < 96 := t.isLt

/-- Row and column of a tile's element in the whole array. -/
def row (t : Fin cfg0.N) (q : Fin 512) : Fin 6144 := ⟨512 * (t.val / 8) + q.val, by have := lt_N t; omega⟩
def col (t : Fin cfg0.N) (j : Fin 1024) : Fin 8192 := ⟨1024 * (t.val % 8) + j.val, by omega⟩

/-- Each input's block, in terms of its array. -/
theorem act_at (c : Dev nD) (t : Fin cfg0.N) (q : Fin 512) (j : Fin 1024) : (iblk m c 0 t : Vec Ideal S512x1024 .f32) (ix2 q j) = (m ((c : Thread nD τ).loc main_arg0)) (ix2 (row t q) (col t j)) := by
  unfold row col
  blk_point [iblk, V, idx t]
theorem amax_at (c : Dev nD) (t : Fin cfg0.N) (q : Fin 512) (l : Fin 128) : (iblk m c 1 t : Vec Ideal S512x128 .f32) (ix2 q l) = (m ((c : Thread nD τ).loc main_arg1)) (ix2 (row t q) l) := by
  unfold row
  blk_point [iblk, V, idx t]
theorem w_at (c : Dev nD) (t : Fin cfg0.N) (k : Fin 1024) (d : Fin 3072) : (iblk m c 2 t : Vec Ideal S1024x3072 .bf16) (ix2 k d) = (m ((c : Thread nD τ).loc main_arg2)) (ix2 (col t k) d) := by
  unfold col
  blk_point [iblk, V, idx t]
theorem g_at (c : Dev nD) (t : Fin cfg0.N) (d : Fin 3072) : (iblk m c 3 t : Vec Ideal S1x3072 .f32) (ix2 0 d) = (m ((c : Thread nD τ).loc main_arg3)) (ix2 0 d) := by
  blk_point [iblk, V, idx t]
theorem y_at (c : Dev nD) (t : Fin cfg0.N) (q : Fin 512) (d : Fin 3072) : (iblk m c 4 t : Vec Ideal S512x3072 .bf16) (ix2 q d) = (m ((c : Thread nD τ).loc main_arg4)) (ix2 (row t q) d) := by
  unfold row
  blk_point [iblk, V, idx t]
theorem h_at (c : Dev nD) (t : Fin cfg0.N) (q : Fin 512) (d : Fin 3072) : (iblk m c 5 t : Vec Ideal S512x3072 .bf16) (ix2 q d) = (m ((c : Thread nD τ).loc main_arg5)) (ix2 (row t q) d) := by
  unfold row
  blk_point [iblk, V, idx t]

/-! ## One point's step -/

/-- The scales of the tile at point `t`. -/
def ScaleAt (c : Dev nD) (t : Fin cfg0.N) (s : Vec Ideal S512x1 .f32) : Prop := ∀ (q : Fin 512) (z : Fin 1), s (ix2 q z) = scaleM m c (ix2 (row t q) z)

/-- The running sums before point `n`: within a sweep, those over the blocks of columns passed. -/
def AccAt (c : Dev nD) (n : ℕ) (X : Vec Ideal S512x3072 .f32) : Prop :=
  n % 8 ≠ 0 → ∀ (q : Fin 512) (d : Fin 3072) (r : Fin 6144), r.val = 512 * (n / 8) + q.val → X (ix2 q d) = partM m c (1024 * (n % 8)) r d

theorem scale_first (c : Dev nD) (t : Fin cfg0.N) : ScaleAt m c t (scaleOut (iblk m c 1 t : Vec Ideal S512x128 .f32)) := fun q z => by
  refine (scaleOut_eq _ q z).trans ?_
  unfold scaleM laneScale
  exact congrArg (fun f => scaleOf (greatest f)) (funext fun l => amax_at m c t q l)

section

variable (c : Dev nD) (t : Fin cfg0.N) (s : Vec Ideal S512x1 .f32) (hs : ScaleAt m c t s)
include hs

theorem code_at (q : Fin 512) (j : Fin 1024) : codeT (iblk m c 0 t : Vec Ideal S512x1024 .f32) s q j = codeM m c (ix2 (row t q) (col t j)) := by
  unfold codeT
  rw [act_at, hs q 0]
  rfl

/-- The point's product takes the running sums one block of columns further. -/
theorem prod_step (q : Fin 512) (d : Fin 3072) :
    prodT (iblk m c 0 t : Vec Ideal S512x1024 .f32) s (iblk m c 2 t : Vec Ideal S1024x3072 .bf16) q d + partM m c (1024 * (t.val % 8)) (row t q) d
      = partM m c (1024 * (t.val % 8 + 1)) (row t q) d := by
  unfold partM
  rw [show 1024 * (t.val % 8 + 1) = 1024 * (t.val % 8) + 1024 by ring, Finset.sum_range_add, add_comm]
  congr 1
  rw [Finset.sum_range]
  unfold prodT
  refine Finset.sum_congr rfl fun k _ => ?_
  unfold termM
  rw [dif_pos (show 1024 * (t.val % 8) + k.val < 8192 by have := k.isLt; omega), code_at m c t s hs, w_at]
  rfl

theorem acc_first (h0 : t.val % 8 = 0) : AccAt m c (t.val + 1) (accFirst (iblk m c 0 t : Vec Ideal S512x1024 .f32) s (iblk m c 2 t : Vec Ideal S1024x3072 .bf16)) := fun _ q d r hr => by
  have e := prod_step m c t s hs q d
  rw [h0, show partM m c (1024 * 0) (row t q) d = 0 from Finset.sum_empty, add_zero] at e
  have hr' : r = row t q := Fin.ext (hr.trans (by unfold row; simp only; omega))
  rw [accFirst_eq, e, hr', show (t.val + 1) % 8 = 1 by omega]

/-- The running sums at any later point of a sweep. -/
theorem acc_sum (h0 : t.val % 8 ≠ 0) (X : Vec Ideal S512x3072 .f32) (hX : AccAt m c t.val X) (q : Fin 512) (d : Fin 3072) :
    prodT (iblk m c 0 t : Vec Ideal S512x1024 .f32) s (iblk m c 2 t : Vec Ideal S1024x3072 .bf16) q d + (X (ix2 q d) : EReal) = partM m c (1024 * (t.val % 8 + 1)) (row t q) d := by
  rw [hX h0 q d (row t q) rfl]
  exact prod_step m c t s hs q d

theorem acc_next (h0 : t.val % 8 ≠ 0) (h7 : t.val % 8 ≠ 7) (X : Vec Ideal S512x3072 .f32) (hX : AccAt m c t.val X) :
    AccAt m c (t.val + 1) (accNext (iblk m c 0 t : Vec Ideal S512x1024 .f32) s (iblk m c 2 t : Vec Ideal S1024x3072 .bf16) X) := fun _ q d r hr => by
  have hr' : r = row t q := Fin.ext (hr.trans (by unfold row; simp only; omega))
  rw [accNext_eq, acc_sum m c t s hs h0 X hX q d, hr', show (t.val + 1) % 8 = t.val % 8 + 1 by omega]

theorem acc_last (h7 : t.val % 8 = 7) (X : Vec Ideal S512x3072 .f32) (hX : AccAt m c t.val X) (q : Fin 512) :
    (fun d => prodT (iblk m c 0 t : Vec Ideal S512x1024 .f32) s (iblk m c 2 t : Vec Ideal S1024x3072 .bf16) q d + (X (ix2 q d) : EReal))
      = prodT (m ((c : Thread nD τ).loc main_arg0)) (laneScale (m ((c : Thread nD τ).loc main_arg1))) (m ((c : Thread nD τ).loc main_arg2)) (row t q) := by
  funext d
  rw [acc_sum m c t s hs (by omega) X hX q d, h7]
  exact part_all m c (row t q) d

theorem code8_leaves (q : Fin 512) (j : Fin 1024) : codeOut (iblk m c 0 t : Vec Ideal S512x1024 .f32) s (ix2 q j) = code8M m c (ix2 (row t q) (col t j)) :=
  (codeOut_eq _ _ q j).trans (congrArg (FloatOps.fptosi (F := Ideal) (φ := .f32) 8) (code_at m c t s hs q j))

theorem code_leaves (q : Fin 512) (j : Fin 1024) : codeBfOut (iblk m c 0 t : Vec Ideal S512x1024 .f32) s (ix2 q j) = codeM m c (ix2 (row t q) (col t j)) :=
  (codeBfOut_eq _ _ q j).trans (code_at m c t s hs q j)

theorem err_at (p : Fin 3072 → EReal) (q : Fin 512) (d : Fin 3072) :
    errT s (iblk m c 3 t : Vec Ideal S1x3072 .f32) (iblk m c 4 t : Vec Ideal S512x3072 .bf16) q p d = errT (laneScale (m ((c : Thread nD τ).loc main_arg1))) (m ((c : Thread nD τ).loc main_arg3)) (m ((c : Thread nD τ).loc main_arg4)) (row t q) p d := by
  unfold errT
  rw [hs q 0, g_at, y_at]
  rfl

theorem weigh_at (p : Fin 3072 → EReal) (q : Fin 512) (d : Fin 3072) :
    weighT s (iblk m c 3 t : Vec Ideal S1x3072 .f32) (iblk m c 4 t : Vec Ideal S512x3072 .bf16) (iblk m c 5 t : Vec Ideal S512x3072 .bf16) q p d = weighT (laneScale (m ((c : Thread nD τ).loc main_arg1))) (m ((c : Thread nD τ).loc main_arg3)) (m ((c : Thread nD τ).loc main_arg4)) (m ((c : Thread nD τ).loc main_arg5)) (row t q) p d := by
  unfold weighT
  rw [err_at m c t s hs, h_at]

theorem loss_leaves (h7 : t.val % 8 = 7) (X : Vec Ideal S512x3072 .f32) (hX : AccAt m c t.val X) (q : Fin 512) (z : Fin 1) :
    lossOut (iblk m c 0 t : Vec Ideal S512x1024 .f32) s (iblk m c 2 t : Vec Ideal S1024x3072 .bf16) X (iblk m c 3 t : Vec Ideal S1x3072 .f32) (iblk m c 4 t : Vec Ideal S512x3072 .bf16) (iblk m c 5 t : Vec Ideal S512x3072 .bf16) (ix2 q z) = lossM m c (ix2 (row t q) z) := by
  rw [lossOut_eq, acc_last m c t s hs h7 X hX q]
  unfold lossM lossA lossT
  refine congrArg (fun u : EReal => u * Ideal.ofBits .f32 0x392AAAAB#32) (Finset.sum_congr rfl fun d _ => ?_)
  rw [weigh_at m c t s hs, err_at m c t s hs]
  rfl

theorem dya_leaves (h7 : t.val % 8 = 7) (X : Vec Ideal S512x3072 .f32) (hX : AccAt m c t.val X) (q : Fin 512) (d : Fin 3072) :
    dyaOut (iblk m c 0 t : Vec Ideal S512x1024 .f32) s (iblk m c 2 t : Vec Ideal S1024x3072 .bf16) X (iblk m c 3 t : Vec Ideal S1x3072 .f32) (iblk m c 4 t : Vec Ideal S512x3072 .bf16) (iblk m c 5 t : Vec Ideal S512x3072 .bf16) (ix2 q d) = dyaM m c (ix2 (row t q) d) := by
  rw [dyaOut_eq, acc_last m c t s hs h7 X hX q, weigh_at m c t s hs, hs q 0]
  rfl

theorem dyw_leaves (h7 : t.val % 8 = 7) (X : Vec Ideal S512x3072 .f32) (hX : AccAt m c t.val X) (q : Fin 512) (d : Fin 3072) :
    dywOut (iblk m c 0 t : Vec Ideal S512x1024 .f32) s (iblk m c 2 t : Vec Ideal S1024x3072 .bf16) X (iblk m c 3 t : Vec Ideal S1x3072 .f32) (iblk m c 4 t : Vec Ideal S512x3072 .bf16) (iblk m c 5 t : Vec Ideal S512x3072 .bf16) (ix2 q d) = dywM m c (ix2 (row t q) d) := by
  rw [dywOut_eq, acc_last m c t s hs h7 X hX q, weigh_at m c t s hs, g_at]
  rfl

end

end Cert.DownIdeal.Gen

end
-- ==== Proof.DownPoint.lean ====
/-
  THE DOWN PROJECTION'S CALL over the extended reals: what its results hold at the end, from what each grid point finds and
  leaves. Twelve tiles of 512 rows, each swept in eight blocks of 1024 columns: the scratch buffer carries a tile's running
  sums from point to point, its scales stay in their buffer, and the last point of a sweep writes the loss and the gradients.
-/
module

public import proofs.«01_k».proof.Proof.DownStep
public import proofs.«01_k».proof.Proof.Gen.DownIdeal.Frame
public import proofs.«01_k».proof.Proof.Gen.DownIdeal.Skeleton
public import proofs.«01_k».proof.Proof.Gen.DownIdeal.Launch
public import proofs.«01_k».proof.Proof.Gen.DownIdeal.Points
public import Idealize.ShloMosaic.Lib.Claim
public import Idealize.ShloMosaic.Lib.Pipeline.ArrRel
public import Idealize.ShloMosaic.Lib.Pipeline.DatRel

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationRel cellOf)
open Cert.Math

local notation "𝕄" => MT nD τ sig Unit (Elt Ideal) ℕ (UR sig nD τ) ℕ

variable (m : (ℓ : Loc nD τ sig) → Buf (Elt Ideal) ℓ) (ρ : Dev nD → PrngReg)

/-! ## The kernel body on any staging memrefs -/

/-- Each window's current staging memref at point `t`, spelled as the pipeline passes it (`bodyAt0`). -/
abbrev ms0_0 (t : Fin cfg0.N) : Memref sig .tc .vmem S512x1024 .f32 := win0_0.stage (cfg0.slots t 0)
abbrev ms0_1 (t : Fin cfg0.N) : Memref sig .tc .vmem S512x128 .f32 := win0_1.stage (cfg0.slots t 1)
abbrev ms0_2 (t : Fin cfg0.N) : Memref sig .tc .vmem S1024x3072 .bf16 := win0_2.stage (cfg0.slots t 2)
abbrev ms0_3 (t : Fin cfg0.N) : Memref sig .tc .vmem S1x3072 .f32 := win0_3.stage (cfg0.slots t 3)
abbrev ms0_4 (t : Fin cfg0.N) : Memref sig .tc .vmem S512x3072 .bf16 := win0_4.stage (cfg0.slots t 4)
abbrev ms0_5 (t : Fin cfg0.N) : Memref sig .tc .vmem S512x3072 .bf16 := win0_5.stage (cfg0.slots t 5)
abbrev ms0_6 (t : Fin cfg0.N) : Memref sig .tc .vmem S512x1024 .i8 := win0_6.stage (cfg0.slots t 6)
abbrev ms0_7 (t : Fin cfg0.N) : Memref sig .tc .vmem S512x1024 .bf16 := win0_7.stage (cfg0.slots t 7)
abbrev ms0_8 (t : Fin cfg0.N) : Memref sig .tc .vmem S512x1 .f32 := win0_8.stage (cfg0.slots t 8)
abbrev ms0_9 (t : Fin cfg0.N) : Memref sig .tc .vmem S512x1 .f32 := win0_9.stage (cfg0.slots t 9)
abbrev ms0_10 (t : Fin cfg0.N) : Memref sig .tc .vmem S512x3072 .bf16 := win0_10.stage (cfg0.slots t 10)
abbrev ms0_11 (t : Fin cfg0.N) : Memref sig .tc .vmem S512x3072 .bf16 := win0_11.stage (cfg0.slots t 11)

/-- Which branches the body takes: the first two at the first point of a row of tiles, the last at its last, the third at the others. -/
theorem conds : ∀ t : Fin cfg0.N,
    (t.val % 8 = 0 → k0_cond1 (grid0.coords t) = 1#1 ∧ k0_cond2 (grid0.coords t) = 1#1 ∧ ¬k0_cond3 (grid0.coords t) = 1#1 ∧ ¬k0_cond4 (grid0.coords t) = 1#1)
    ∧ (t.val % 8 ≠ 0 → t.val % 8 ≠ 7 → ¬k0_cond1 (grid0.coords t) = 1#1 ∧ ¬k0_cond2 (grid0.coords t) = 1#1 ∧ k0_cond3 (grid0.coords t) = 1#1 ∧ ¬k0_cond4 (grid0.coords t) = 1#1)
    ∧ (t.val % 8 = 7 → ¬k0_cond1 (grid0.coords t) = 1#1 ∧ ¬k0_cond2 (grid0.coords t) = 1#1 ∧ ¬k0_cond3 (grid0.coords t) = 1#1 ∧ k0_cond4 (grid0.coords t) = 1#1) :=
  (by decide +kernel : ∀ t : Fin grid0.N, _)

/-! ## The pipeline's proof data -/

/-- What is carried from point to point: the scratch buffer with the running sums, and the random number register. -/
def carried (c : Dev nD) (n : ℕ) : sProp 𝕄 :=
  iprop((∃ X : Vec Ideal S512x3072 .f32, ⌜AccAt m c n X⌝ ∗ owns (c : Thread nD τ) (Memref.whole cc0_scratch0) fullShare X) ∗ ∃ r, prngReg c r)

/-- The proof data: after the body each input's buffer holds its block. The outputs are held to `Rl` below. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ n := carried m c n.val
  q _ := fullShare
  owed _ := 0

/-- The windows held to a predicate, or to none: the outputs. -/
def marks : Fin 12 → Bool := fun w => w.val == 6 || w.val == 7 || w.val == 8 || w.val == 9 || w.val == 10 || w.val == 11

/-- What the body leaves in each output's buffer at point `t`. -/
def Rl (c : Dev nD) (w : Fin cfg0.W) (t : Fin cfg0.N) (X : (cfg0.win w).block.Idx → Elt Ideal (cfg0.win w).elt) : Prop :=
  match w, X with
  | ⟨6, _⟩, X => ∀ (q : Fin 512) (j : Fin 1024), (X : Vec Ideal S512x1024 .i8) (ix2 q j) = code8M m c (ix2 (row t q) (col t j))
  | ⟨7, _⟩, X => ∀ (q : Fin 512) (j : Fin 1024), (X : Vec Ideal S512x1024 .bf16) (ix2 q j) = codeM m c (ix2 (row t q) (col t j))
  | ⟨8, _⟩, X => ScaleAt m c t X
  | ⟨9, _⟩, X => t.val % 8 = 7 → ∀ (q : Fin 512) (z : Fin 1), (X : Vec Ideal S512x1 .f32) (ix2 q z) = lossM m c (ix2 (row t q) z)
  | ⟨10, _⟩, X => t.val % 8 = 7 → ∀ (q : Fin 512) (d : Fin 3072), (X : Vec Ideal S512x3072 .bf16) (ix2 q d) = dyaM m c (ix2 (row t q) d)
  | ⟨11, _⟩, X => t.val % 8 = 7 → ∀ (q : Fin 512) (d : Fin 3072), (X : Vec Ideal S512x3072 .bf16) (ix2 q d) = dywM m c (ix2 (row t q) d)
  | _, _ => True

/-- The relational data: the exact data with the outputs held to `Rl`. -/
abbrev rdats (c : Dev nD) := (dats m 0 c).toRRel marks (Rl m c)

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem fetch8 : ∀ t : Fin cfg0.N, (cfg0.win 8).fetch t = false := fun _ => rfl

/-- The scales the body finds within a sweep are the tile's. -/
theorem found (c : Dev nD) (t : Fin cfg0.N) (ht : t.val % 8 ≠ 0) (Y : Vec Ideal S512x1 .f32) (h : (rdats m c).Finds 8 t Y) : ScaleAt m c t Y := by
  rcases ((rdats m c).finds_of_pos (fetch8 t) (by omega) Y).mp h with hfl | hL
  · have := (flush0_8 _).mp hfl
    simp only at this
    omega
  · have e := (dats m 0 c).toRRel_leaves rfl hL
    intro q z
    refine (e q z).trans ?_
    congr 2
    exact Fin.ext (by unfold row; simp only; omega)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_DownIdeal`, Defs.lean). -/
theorem frame_of_rel (rdat : (c : Dev nD) → Pipeline.RDat τ (Elt Ideal) Unit ℕ (UR sig nD τ) ℕ (cfgs 0) c)
    (hA : ∀ c w, (rdat c).A w = V m c (Pipeline.arrRef spec0 w))
    (h : θ_run defs (onTc (τ := τ) (main (F := Ideal))) (s₀ m ρ) (Pipeline.RDat.FramePost (cfgs 0) rdat (V m))) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c))⟩) h

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y, ⌜(rdats m c).Finds 6 t Y⌝ ∗ owns (c : Thread nD τ) (ms0_6 t) fullShare Y)
    ∗ (∃ Y, ⌜(rdats m c).Finds 7 t Y⌝ ∗ owns (c : Thread nD τ) (ms0_7 t) fullShare Y)
    ∗ (∃ Y, ⌜(rdats m c).Finds 8 t Y⌝ ∗ owns (c : Thread nD τ) (ms0_8 t) fullShare Y)
    ∗ (∃ Y, ⌜(rdats m c).Finds 9 t Y⌝ ∗ owns (c : Thread nD τ) (ms0_9 t) fullShare Y)
    ∗ (∃ Y, ⌜(rdats m c).Finds 10 t Y⌝ ∗ owns (c : Thread nD τ) (ms0_10 t) fullShare Y)
    ∗ (∃ Y, ⌜(rdats m c).Finds 11 t Y⌝ ∗ owns (c : Thread nD τ) (ms0_11 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X, ⌜Rl m c 6 t X⌝ ∗ owns (c : Thread nD τ) (ms0_6 t) fullShare X)
    ∗ (∃ X, ⌜Rl m c 7 t X⌝ ∗ owns (c : Thread nD τ) (ms0_7 t) fullShare X)
    ∗ (∃ X, ⌜Rl m c 8 t X⌝ ∗ owns (c : Thread nD τ) (ms0_8 t) fullShare X)
    ∗ (∃ X, ⌜Rl m c 9 t X⌝ ∗ owns (c : Thread nD τ) (ms0_9 t) fullShare X)
    ∗ (∃ X, ⌜Rl m c 10 t X⌝ ∗ owns (c : Thread nD τ) (ms0_10 t) fullShare X)
    ∗ (∃ X, ⌜Rl m c 11 t X⌝ ∗ owns (c : Thread nD τ) (ms0_11 t) fullShare X))

set_option maxHeartbeats 1600000 in
/-- The body at any point: it keeps what is carried, and leaves what `Rl` says. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = carried m c (t.val + 1) from rfl, show (dats m 0 c).Φ t.castSucc = carried m c t.val from rfl,
    show (dats m 0 c).owesAt () t.succ = (dats m 0 c).owesAt () t.castSucc from rfl,
    after0_0, after0_1, after0_2, after0_3, after0_4, after0_5]
  unfold carried
  iintro ⟨⟨⟨%X, %hX, H12⟩, Hr⟩, Ho, ⟨%d0, H0⟩, ⟨%d1, H1⟩, ⟨%d2, H2⟩, ⟨%d3, H3⟩, ⟨%d4, H4⟩, ⟨%d5, H5⟩, ⟨%Y6, -, H6⟩, ⟨%Y7, -, H7⟩, ⟨%Y8, %hY, H8⟩, ⟨%Y9, -, H9⟩, ⟨%Y10, -, H10⟩, ⟨%Y11, -, H11⟩⟩
  have hc := conds t
  by_cases h0 : t.val % 8 = 0
  · obtain ⟨h1, h2, h3, h4⟩ := hc.1 h0
    have hs := scale_first m c t
    iapply ((kernelRunA c (grid0.coords t) _ _ _ _ _ _ _ _ _ _ _ _ _ _ _ _ _ _ _ _ _ _ _ _ _ _ h1 h2 h3 h4 (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iintro ⟨H0, H1, H2, H3, H4, H5, H6, H7, H8, ⟨%X9, H9⟩, ⟨%X10, H10⟩, ⟨%X11, H11⟩, H12⟩
    isplitl [H12 Hr]
    · isplitl [H12]
      · iexists _; isplitr; swap; · iexact H12
        ipureintro
        exact acc_first m c t _ hs h0
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; isplitr; swap; · iexact H6
      ipureintro
      exact code8_leaves m c t _ hs
    isplitl [H7]
    · iexists _; isplitr; swap; · iexact H7
      ipureintro
      exact code_leaves m c t _ hs
    isplitl [H8]
    · iexists _; isplitr; swap; · iexact H8
      ipureintro
      exact hs
    isplitl [H9]
    · iexists _; isplitr; swap; · iexact H9
      ipureintro
      exact fun h => absurd h (by omega)
    isplitl [H10]
    · iexists _; isplitr; swap; · iexact H10
      ipureintro
      exact fun h => absurd h (by omega)
    iexists _; isplitr; swap; · iexact H11
    ipureintro
    exact fun h => absurd h (by omega)
  have hs := found m c t h0 Y8 hY
  by_cases h7 : t.val % 8 = 7
  · obtain ⟨h1, h2, h3, h4⟩ := hc.2.2 h7
    iapply ((kernelRunC c (grid0.coords t) _ _ _ _ _ _ _ _ _ _ _ _ _ _ _ _ _ _ _ _ _ _ _ _ _ _ h1 h2 h3 h4 (iblk m c 0 t) (iblk m c 1 t) (iblk m c 2 t) (iblk m c 3 t) (iblk m c 4 t) (iblk m c 5 t) Y8 X) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [H9]; · iexists _; iexact H9
    isplitl [H10]; · iexists _; iexact H10
    isplitl [H11]; · iexists _; iexact H11
    isplitl [H12]; · iexact H12
    iintro ⟨H0, H1, H2, H3, H4, H5, H6, H7, H8, H9, H10, H11, ⟨%X12, H12⟩⟩
    isplitl [H12 Hr]
    · isplitl [H12]
      · iexists _; isplitr; swap; · iexact H12
        ipureintro
        exact fun h => absurd h (by omega)
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; isplitr; swap; · iexact H6
      ipureintro
      exact code8_leaves m c t Y8 hs
    isplitl [H7]
    · iexists _; isplitr; swap; · iexact H7
      ipureintro
      exact code_leaves m c t Y8 hs
    isplitl [H8]
    · iexists _; isplitr; swap; · iexact H8
      ipureintro
      exact hs
    isplitl [H9]
    · iexists _; isplitr; swap; · iexact H9
      ipureintro
      exact fun _ => loss_leaves m c t Y8 hs h7 X hX
    isplitl [H10]
    · iexists _; isplitr; swap; · iexact H10
      ipureintro
      exact fun _ => dya_leaves m c t Y8 hs h7 X hX
    iexists _; isplitr; swap; · iexact H11
    ipureintro
    exact fun _ => dyw_leaves m c t Y8 hs h7 X hX
  · obtain ⟨h1, h2, h3, h4⟩ := hc.2.1 h0 h7
    iapply ((kernelRunB c (grid0.coords t) _ _ _ _ _ _ _ _ _ _ _ _ _ _ _ _ _ _ _ _ _ _ _ _ _ _ h1 h2 h3 h4 (iblk m c 0 t) (iblk m c 1 t) (iblk m c 2 t) (iblk m c 3 t) (iblk m c 4 t) (iblk m c 5 t) Y8 X) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [H9]; · iexists _; iexact H9
    isplitl [H10]; · iexists _; iexact H10
    isplitl [H11]; · iexists _; iexact H11
    isplitl [H12]; · iexact H12
    iintro ⟨H0, H1, H2, H3, H4, H5, H6, H7, H8, ⟨%X9, H9⟩, ⟨%X10, H10⟩, ⟨%X11, H11⟩, H12⟩
    isplitl [H12 Hr]
    · isplitl [H12]
      · iexists _; isplitr; swap; · iexact H12
        ipureintro
        exact acc_next m c t Y8 hs h0 h7 X hX
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; isplitr; swap; · iexact H6
      ipureintro
      exact code8_leaves m c t Y8 hs
    isplitl [H7]
    · iexists _; isplitr; swap; · iexact H7
      ipureintro
      exact code_leaves m c t Y8 hs
    isplitl [H8]
    · iexists _; isplitr; swap; · iexact H8
      ipureintro
      exact hs
    isplitl [H9]
    · iexists _; isplitr; swap; · iexact H9
      ipureintro
      exact fun h => absurd h h7
    isplitl [H10]
    · iexists _; isplitr; swap; · iexact H10
      ipureintro
      exact fun h => absurd h h7
    iexists _; isplitr; swap; · iexact H11
    ipureintro
    exact fun h => absurd h h7

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligationRel (dats m 0 c) (defs₀ (F := Ideal)) Variants.none () Set.univ marks (Rl m c) := fun t => by
  rw [bigSep_W0, bigSep_W0, defs₀_row]
  exact triple_restated (sound_body m c t) rfl .rfl fun _ => .rfl

/-! ## The run and the frame -/

theorem carried_in (c : Dev nD) : Pipeline.ΦA spec0 c ⊢ carried m c 0 := by
  unfold Pipeline.ΦA carried
  rw [scopedRest0_eq]
  simp only [← owns_whole]
  iintro ⟨⟨%X, H⟩, Hr⟩
  isplitl [H]
  · iexists X; isplitr; swap; · iexact H
    ipureintro
    exact fun h => absurd rfl h
  iexact Hr

theorem carried_out (c : Dev nD) (n : ℕ) : carried m c n ⊢ Pipeline.ΦA spec0 c := by
  unfold Pipeline.ΦA carried
  rw [scopedRest0_eq]
  simp only [← owns_whole]
  iintro ⟨⟨%X, -, H⟩, Hr⟩
  isplitl [H]
  · iexists X; iexact H
  iexact Hr

set_option backward.isDefEq.respectTransparency.types false in
/-- The launch: every array ends at something the relational data allow, and every semaphore counter at zero. -/
theorem run_main_quiescent : θ_run defs (onTc (τ := τ) (main (F := Ideal))) (s₀ m ρ) (fun r => (Pipeline.RDat.FramePost (cfgs 0) (rdats m) (V m)) r ∧ r.2.sem = fun _ => 0) :=
  Pipeline.RDat.θ_run_frame_track (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hin := carried_in m) (hout := fun c => carried_out m c _)

theorem run_rel : θ_run defs (onTc (τ := τ) (main (F := Ideal))) (s₀ m ρ) (Pipeline.RDat.FramePost (cfgs 0) (rdats m) (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_rel m ρ (rdats m) (A_eq m) (run_rel m ρ)

/-- The frame: the argument arrays end unchanged, and every semaphore counter is back at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

/-! ## The arrays at the end -/

section
variable {m}
variable {c : Dev nD} {after : (w : Fin cfg0.W) → Fin cfg0.N → (cfg0.win w).block.Idx → Elt Ideal (cfg0.win w).elt}

theorem final6 (h : ∀ t, (cfg0.win 6).flush t = true → Rl m c 6 t (after 6 t)) : ((rdats m c).withAfter after).arrAt 6 cfg0.N = code8M m c := by
  refine ((rdats m c).withAfter after).arrAt_eq_of_covers 6 _ (by decide +kernel) fun t hf y => ?_
  blk_simp
  obtain ⟨q, j, rfl⟩ : ∃ q j, y = ix2 q j := ⟨y 0, y 1, by funext a; match a with | ⟨0, _⟩ => rfl | ⟨1, _⟩ => rfl⟩
  refine (h t hf q j).trans ?_
  generalize code8M m c = G
  unfold row col
  blk_point [idx t]

theorem final7 (h : ∀ t, (cfg0.win 7).flush t = true → Rl m c 7 t (after 7 t)) : ((rdats m c).withAfter after).arrAt 7 cfg0.N = codeM m c := by
  refine ((rdats m c).withAfter after).arrAt_eq_of_covers 7 _ (by decide +kernel) fun t hf y => ?_
  blk_simp
  obtain ⟨q, j, rfl⟩ : ∃ q j, y = ix2 q j := ⟨y 0, y 1, by funext a; match a with | ⟨0, _⟩ => rfl | ⟨1, _⟩ => rfl⟩
  refine (h t hf q j).trans ?_
  generalize codeM m c = G
  unfold row col
  blk_point [idx t]

theorem final8 (h : ∀ t, (cfg0.win 8).flush t = true → Rl m c 8 t (after 8 t)) : ((rdats m c).withAfter after).arrAt 8 cfg0.N = scaleM m c := by
  refine ((rdats m c).withAfter after).arrAt_eq_of_covers 8 _ (by decide +kernel) fun t hf y => ?_
  blk_simp
  obtain ⟨q, j, rfl⟩ : ∃ q j, y = ix2 q j := ⟨y 0, y 1, by funext a; match a with | ⟨0, _⟩ => rfl | ⟨1, _⟩ => rfl⟩
  refine (h t hf q j).trans ?_
  generalize scaleM m c = G
  unfold row
  blk_point [idx t]

theorem final9 (h : ∀ t, (cfg0.win 9).flush t = true → Rl m c 9 t (after 9 t)) : ((rdats m c).withAfter after).arrAt 9 cfg0.N = lossM m c := by
  refine ((rdats m c).withAfter after).arrAt_eq_of_covers 9 _ (by decide +kernel) fun t hf y => ?_
  blk_simp
  obtain ⟨q, j, rfl⟩ : ∃ q j, y = ix2 q j := ⟨y 0, y 1, by funext a; match a with | ⟨0, _⟩ => rfl | ⟨1, _⟩ => rfl⟩
  refine (h t hf ((flush0_9 t).mp hf) q j).trans ?_
  generalize lossM m c = G
  unfold row
  blk_point [idx t]

theorem final10 (h : ∀ t, (cfg0.win 10).flush t = true → Rl m c 10 t (after 10 t)) : ((rdats m c).withAfter after).arrAt 10 cfg0.N = dyaM m c := by
  refine ((rdats m c).withAfter after).arrAt_eq_of_covers 10 _ (by decide +kernel) fun t hf y => ?_
  blk_simp
  obtain ⟨q, j, rfl⟩ : ∃ q j, y = ix2 q j := ⟨y 0, y 1, by funext a; match a with | ⟨0, _⟩ => rfl | ⟨1, _⟩ => rfl⟩
  refine (h t hf ((flush0_10 t).mp hf) q j).trans ?_
  generalize dyaM m c = G
  unfold row
  blk_point [idx t]

theorem final11 (h : ∀ t, (cfg0.win 11).flush t = true → Rl m c 11 t (after 11 t)) : ((rdats m c).withAfter after).arrAt 11 cfg0.N = dywM m c := by
  refine ((rdats m c).withAfter after).arrAt_eq_of_covers 11 _ (by decide +kernel) fun t hf y => ?_
  blk_simp
  obtain ⟨q, j, rfl⟩ : ∃ q j, y = ix2 q j := ⟨y 0, y 1, by funext a; match a with | ⟨0, _⟩ => rfl | ⟨1, _⟩ => rfl⟩
  refine (h t hf ((flush0_11 t).mp hf) q j).trans ?_
  generalize dywM m c = G
  unfold row
  blk_point [idx t]

end

/-- What the arrays hold at the end. -/
theorem results : θ_run defs (onTc (τ := τ) (main (F := Ideal))) ⟨m, fun _ => 0, ρ⟩ (fun r => ∀ c : Dev nD,
      r.2.mem ((c.tc : Thread nD τ).loc main_v0_0) = code8M m c
      ∧ r.2.mem ((c.tc : Thread nD τ).loc main_v0_1) = codeM m c
      ∧ r.2.mem ((c.tc : Thread nD τ).loc main_v0_2) = scaleM m c
      ∧ r.2.mem ((c.tc : Thread nD τ).loc main_v0_3) = lossM m c
      ∧ r.2.mem ((c.tc : Thread nD τ).loc main_v0_4) = dyaM m c
      ∧ r.2.mem ((c.tc : Thread nD τ).loc main_v0_5) = dywM m c) :=
  (θ_run defs _ _).mono (fun r h c => by
    obtain ⟨after, hL, hA⟩ := Pipeline.RDat.FramePost.exists_exact h c
    exact ⟨(hA 6).trans (final6 fun t hf => (dats m 0 c).toRRel_leaves rfl (hL 6 t hf)),
      (hA 7).trans (final7 fun t hf => (dats m 0 c).toRRel_leaves rfl (hL 7 t hf)),
      (hA 8).trans (final8 fun t hf => (dats m 0 c).toRRel_leaves rfl (hL 8 t hf)),
      (hA 9).trans (final9 fun t hf => (dats m 0 c).toRRel_leaves rfl (hL 9 t hf)),
      (hA 10).trans (final10 fun t hf => (dats m 0 c).toRRel_leaves rfl (hL 10 t hf)),
      (hA 11).trans (final11 fun t hf => (dats m 0 c).toRRel_leaves rfl (hL 11 t hf))⟩) (run_rel m ρ)

end Cert.DownIdeal.Gen

end
-- ==== Proof.DownRef.lean ====
/-
  THE PLAIN DOWN PROJECTION and its loss: what the reference computes over the extended reals.
-/
module

public import proofs.«01_k».proof.Proof.DownVal
public import proofs.«01_k».proof.Proof.Gen.DownRefIdeal.Value

@[expose] public section

set_option maxRecDepth 16384

noncomputable section

namespace Cert.DownRefIdeal.Value

open Cert.DownRefIdeal Cert.DownRefIdeal.Gen Idealize.ShloMosaic Idealize.ShloMosaic.TcCoe Idealize.SL.Sem Cert.Math

variable (a : Vec Ideal S6144x128 .f32) (x : Vec Ideal S6144x8192 .f32) (w : Vec Ideal S8192x3072 .bf16) (g : Vec Ideal S1x3072 .f32)
  (y h : Vec Ideal S6144x3072 .bf16)

theorem scale_apply (v : FVec Ideal S6144 .f32) (q : Fin 6144) (z : Fin 1) :
    select (cmpf .ogt (shapeCast S6144x1 v shapeCasts_S6144_S6144x1) (broadcast S6144x1 (Scalar.ofBits (F := Ideal) .f32 0x00000000#32)))
      (divf (shapeCast S6144x1 v shapeCasts_S6144_S6144x1) (broadcast S6144x1 (Scalar.ofBits (F := Ideal) .f32 0x42FE0000#32)))
      (broadcast S6144x1 (Scalar.ofBits (F := Ideal) .f32 0x3F800000#32)) (ix2 q z) = scaleOf (v (ix1 q)) := by
  pointwise [scaleOf]

/-- The scales. -/
theorem pay4_apply (q : Fin 6144) (z : Fin 1) : k0_pay4 a (ix2 q z) = laneScale a (ix2 q z) := by
  unfold k0_pay4
  exact (scale_apply _ q z).trans (congrArg scaleOf (reduceMax_apply a reduces_S6144x128_S6144 (.inl rfl) rfl q))

theorem code_apply (s : FVec Ideal S6144x1 .f32) (q : Fin 6144) (z : Fin 8192) :
    minimumf (broadcast S6144x8192 (Scalar.ofBits (F := Ideal) .f32 0x42FE0000#32)) (maximumf (broadcast S6144x8192 (Scalar.ofBits (F := Ideal) .f32 0xC2FE0000#32))
      (roundeven (divf x (broadcastTo S6144x8192 s broadcasts_S6144x1_S6144x8192)))) (ix2 q z) = codeT x s q z := by
  pointwise [codeT, codeOf]

/-- Everything below takes the scales by the row only. -/
theorem codeT_scale (q : Fin 6144) (k : Fin 8192) : codeT x (k0_pay4 a) q k = codeT x (laneScale a) q k := by
  unfold codeT
  rw [pay4_apply]

/-- The codes as 8-bit integers, and as numbers. -/
theorem pay5_apply (q : Fin 6144) (z : Fin 8192) : k0_pay5 a x (ix2 q z) = code8A x a (ix2 q z) := by
  unfold k0_pay5
  exact congrArg (FloatOps.fptosi (F := Ideal) (φ := .f32) 8) ((code_apply x (k0_pay4 a) q z).trans (codeT_scale a x q z))

theorem pay6_apply (q : Fin 6144) (z : Fin 8192) : k0_pay6 a x (ix2 q z) = codeA x a (ix2 q z) :=
  (congrArg (FloatOps.sitofp (F := Ideal) .bf16) (pay5_apply a x q z)).trans (sitofp_codeOf _ _ _)

theorem mm_apply (b : FVec Ideal S6144x8192 .bf16) (q : Fin 6144) (d : Fin 3072) :
    matmul (φ₂ := .bf16) dot_S6144x8192_S8192x3072_S6144x3072_1_0_0_1_n_n none b w (constant S6144x3072 .f32 0x00000000#32) (ix2 q d)
      = ∑ k : Fin 8192, (b (ix2 q k) : EReal) * (w (ix2 k d) : EReal) := by
  pointwise []

theorem prod_apply (q : Fin 6144) (d : Fin 3072) :
    matmul (φ₂ := .bf16) dot_S6144x8192_S8192x3072_S6144x3072_1_0_0_1_n_n none (k0_pay6 a x) w (constant S6144x3072 .f32 0x00000000#32) (ix2 q d)
      = prodT x (laneScale a) w q d := by
  rw [mm_apply]
  unfold prodT
  exact Finset.sum_congr rfl fun k _ => congrArg (fun v : EReal => v * (w (ix2 k d) : EReal)) (pay6_apply a x q k)

theorem err_apply (p : FVec Ideal S6144x3072 .f32) (s : FVec Ideal S6144x1 .f32) (q : Fin 6144) (d : Fin 3072) :
    subf (mulf p (mulf (broadcastTo S6144x3072 s broadcasts_S6144x1_S6144x3072) (broadcastTo S6144x3072 (g : FVec Ideal S1x3072 .f32) broadcasts_S1x3072_S6144x3072))) (extf (φ := .bf16) .f32 y bitsLt_bf16_f32) (ix2 q d)
      = errT s g y q (fun d => p (ix2 q d)) d := by
  pointwise [errT]

theorem pay7_apply (q : Fin 6144) (d : Fin 3072) : k0_pay7 a x w g y (ix2 q d) = errT (laneScale a) g y q (prodT x (laneScale a) w q) d := by
  unfold k0_pay7
  refine (err_apply _ _ _ _ q d).trans ?_
  unfold errT
  rw [pay4_apply]
  exact congrArg (fun u : EReal => u * ((laneScale a (ix2 q 0) : EReal) * (g (ix2 0 d) : EReal)) - (y (ix2 q d) : EReal)) (prod_apply a x w q d)

theorem pay8_apply (q : Fin 6144) (d : Fin 3072) : k0_pay8 a x w g y h (ix2 q d) = weighT (laneScale a) g y h q (prodT x (laneScale a) w q) d :=
  congrArg (fun u : EReal => ((h (ix2 q d) : EReal) * (h (ix2 q d) : EReal)) * u) (pay7_apply a x w g y q d)

theorem loss_apply (v : FVec Ideal S6144 .f32) (q : Fin 6144) (z : Fin 1) :
    mulf (shapeCast S6144x1 v shapeCasts_S6144_S6144x1) (broadcast S6144x1 (Scalar.ofBits (F := Ideal) .f32 0x392AAAAB#32)) (ix2 q z)
      = (v (ix1 q) : EReal) * Ideal.ofBits .f32 0x392AAAAB#32 := by
  pointwise []

/-- The losses. -/
theorem pay9_apply (q : Fin 6144) (z : Fin 1) : k0_pay9 a x w g y h (ix2 q z) = lossA x a w g y h (ix2 q z) := by
  unfold k0_pay9 lossA lossT
  refine (loss_apply _ q z).trans ?_
  refine congrArg (fun u : EReal => u * Ideal.ofBits .f32 0x392AAAAB#32) ((reduceAdd_apply _ reduces_S6144x3072_S6144 (.inl rfl) rfl q).trans ?_)
  exact Finset.sum_congr rfl fun d _ => congrArg₂ (fun a b : EReal => a * b) (pay8_apply a x w g y h q d) (pay7_apply a x w g y q d)

theorem slopeA_apply (v : FVec Ideal S6144x3072 .f32) (s : FVec Ideal S6144x1 .f32) (q : Fin 6144) (d : Fin 3072) :
    k0_pay2 s v (ix2 q d) = slopeOf (v (ix2 q d)) (s (ix2 q 0)) := by
  pointwise [slopeOf, k0_pay2, k0_pay1]

theorem slopeW_apply (v : FVec Ideal S6144x3072 .f32) (q : Fin 6144) (d : Fin 3072) :
    k0_pay3 v g (ix2 q d) = slopeOf (v (ix2 q d)) (g (ix2 0 d)) := by
  pointwise [slopeOf, k0_pay3, k0_pay1]

/-- The two scaled gradients. -/
theorem pay2_apply (q : Fin 6144) (d : Fin 3072) : k0_pay2 (k0_pay4 a) (k0_pay8 a x w g y h) (ix2 q d) = dyaA x a w g y h (ix2 q d) :=
  (slopeA_apply _ _ q d).trans (by rw [pay8_apply, pay4_apply]; rfl)

theorem pay3_apply (q : Fin 6144) (d : Fin 3072) : k0_pay3 (k0_pay8 a x w g y h) g (ix2 q d) = dywA x a w g y h (ix2 q d) :=
  (slopeW_apply g _ q d).trans (by rw [pay8_apply]; rfl)

end Cert.DownRefIdeal.Value

end
-- ==== Proof.DownAlg.lean ====
/-
  THE CALL of the down projection, with the quantiser of the activation and the loss, against the same written plainly.
-/
module

public import proofs.«01_k».proof.Proof.DownPoint
public import proofs.«01_k».proof.Proof.DownRef
public import proofs.«01_k».proof.Defs
public import Idealize.ShloMosaic.Lib.Claim

@[expose] public section

set_option maxRecDepth 16384

noncomputable section

namespace Cert.DownRefIdeal.Value

open Cert.DownRefIdeal Cert.DownRefIdeal.Gen Idealize.ShloMosaic Idealize.ShloMosaic.TcCoe Idealize.SL.Sem Cert.Math

variable (a : Vec Ideal S6144x128 .f32) (x : Vec Ideal S6144x8192 .f32) (w : Vec Ideal S8192x3072 .bf16) (g : Vec Ideal S1x3072 .f32)
  (y h : Vec Ideal S6144x3072 .bf16)

theorem zeros : (![0, 0] : Fin 2 → Nat) = fun _ => 0 := funext fun a => by fin_cases a <;> rfl

/-- The scales and the weighted errors are made from the arguments whole. -/
theorem pay10_eq : k0_pay10 x a w g y h = k0_pay4 a := by
  unfold k0_pay10
  exact congrArg k0_pay4 (View.ld_unit_zero (S := S6144x128) zeros _ a)

theorem pay11_eq : k0_pay11 x a w g y h = k0_pay8 a x w g y h := by
  unfold k0_pay11
  congr 1
  · exact View.ld_unit_zero (S := S6144x128) zeros _ a
  · exact View.ld_unit_zero (S := S6144x8192) zeros _ x
  · exact View.ld_unit_zero (S := S8192x3072) zeros _ w
  · exact View.ld_unit_zero (S := S1x3072) zeros _ g
  · exact View.ld_unit_zero (S := S6144x3072) zeros _ y
  · exact View.ld_unit_zero (S := S6144x3072) zeros _ h

theorem codes8_eq : k0_pay5 a x = code8A x a := by
  funext i
  obtain ⟨q, j, rfl⟩ : ∃ q j, i = ix2 q j := ⟨i 0, i 1, by funext a; match a with | ⟨0, _⟩ => rfl | ⟨1, _⟩ => rfl⟩
  exact pay5_apply a x q j

theorem codes_eq : k0_pay6 a x = codeA x a := by
  funext i
  obtain ⟨q, j, rfl⟩ : ∃ q j, i = ix2 q j := ⟨i 0, i 1, by funext a; match a with | ⟨0, _⟩ => rfl | ⟨1, _⟩ => rfl⟩
  exact pay6_apply a x q j

theorem scales_eq : k0_pay10 x a w g y h = laneScale a := by
  rw [pay10_eq]
  funext i
  obtain ⟨q, j, rfl⟩ : ∃ q j, i = ix2 q j := ⟨i 0, i 1, by funext a; match a with | ⟨0, _⟩ => rfl | ⟨1, _⟩ => rfl⟩
  exact pay4_apply a q j

theorem losses_eq : k0_pay9 a x w g y h = lossA x a w g y h := by
  funext i
  obtain ⟨q, j, rfl⟩ : ∃ q j, i = ix2 q j := ⟨i 0, i 1, by funext a; match a with | ⟨0, _⟩ => rfl | ⟨1, _⟩ => rfl⟩
  exact pay9_apply a x w g y h q j

theorem slopesA_eq : k0_pay2 (k0_pay10 x a w g y h) (k0_pay11 x a w g y h) = dyaA x a w g y h := by
  rw [pay10_eq, pay11_eq]
  funext i
  obtain ⟨q, j, rfl⟩ : ∃ q j, i = ix2 q j := ⟨i 0, i 1, by funext a; match a with | ⟨0, _⟩ => rfl | ⟨1, _⟩ => rfl⟩
  exact pay2_apply a x w g y h q j

theorem slopesW_eq : k0_pay3 (k0_pay11 x a w g y h) g = dywA x a w g y h := by
  rw [pay11_eq]
  funext i
  obtain ⟨q, j, rfl⟩ : ∃ q j, i = ix2 q j := ⟨i 0, i 1, by funext a; match a with | ⟨0, _⟩ => rfl | ⟨1, _⟩ => rfl⟩
  exact pay3_apply a x w g y h q j

/-- The reference's results. -/
theorem downRef_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0_0) = code8A (m ((c.tc : Thread nD τ).loc main_arg0)) (m ((c.tc : Thread nD τ).loc main_arg1))
      ∧ r.2.mem ((c.tc : Thread nD τ).loc main_v0_1) = codeA (m ((c.tc : Thread nD τ).loc main_arg0)) (m ((c.tc : Thread nD τ).loc main_arg1))
      ∧ r.2.mem ((c.tc : Thread nD τ).loc main_v0_2) = laneScale (m ((c.tc : Thread nD τ).loc main_arg1))
      ∧ r.2.mem ((c.tc : Thread nD τ).loc main_v0_3) = lossA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v0_4) = dyaA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v0_5) = dywA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5)) :=
  (θ_run defs _ _).mono (fun r h c => by
    obtain ⟨h0, h1, h2, h3, h4, h5, hr⟩ := h c
    exact ⟨h0.trans (codes8_eq _ _), h1.trans (codes_eq _ _), h2.trans (scales_eq _ _ _ _ _ _), h3.trans (losses_eq _ _ _ _ _ _),
      h4.trans (slopesA_eq _ _ _ _ _ _), h5.trans (slopesW_eq _ _ _ _ _ _), hr⟩) (run m ρ)

end Cert.DownRefIdeal.Value

namespace Cert.Proof

open Idealize.ShloMosaic Idealize.ShloMosaic.TcCoe Idealize.SL.Sem Cert.Math

theorem algebraic_down : Cert.algebraic_DownIdeal_DownRefIdeal := by
  pair_intro
  · run_from (θ_run_and (Cert.DownIdeal.Gen.results m g) (Cert.DownIdeal.Gen.unchanged m g))
  · run_from Cert.DownRefIdeal.Value.downRef_run m' g'
    all_goals rfl

end Cert.Proof

end
-- ==== Proof.lean ====
/-
  THE CERTIFICATE: every program runs to its end with its arguments as they were, and each call computes over the
  extended reals what its plain reference computes. The frames of the kernels are the generated ones, those of the
  references are read off the list of their operations, and the equations are the modules `DvGateAlg`, `DvDownAlg`, `QuantXAlg`,
  `GateUpAlg`, `DownAlg` and `DActAlg`.
-/
module

public import proofs.«01_k».proof.Defs
public import proofs.«01_k».proof.Proof.Gen.DvGate
public import proofs.«01_k».proof.Proof.Gen.DvGate.Frame
public import proofs.«01_k».proof.Proof.Gen.DvGateIdeal
public import proofs.«01_k».proof.Proof.Gen.DvGateIdeal.Frame
public import proofs.«01_k».proof.Proof.Gen.DvGateRefIdeal
public import proofs.«01_k».proof.Proof.Gen.DvDown
public import proofs.«01_k».proof.Proof.Gen.DvDown.Frame
public import proofs.«01_k».proof.Proof.Gen.DvDownIdeal
public import proofs.«01_k».proof.Proof.Gen.DvDownIdeal.Frame
public import proofs.«01_k».proof.Proof.Gen.DvDownRefIdeal
public import proofs.«01_k».proof.Proof.Gen.QuantX
public import proofs.«01_k».proof.Proof.Gen.QuantX.Frame
public import proofs.«01_k».proof.Proof.Gen.QuantXIdeal
public import proofs.«01_k».proof.Proof.Gen.QuantXIdeal.Frame
public import proofs.«01_k».proof.Proof.Gen.QuantXRefIdeal
public import proofs.«01_k».proof.Proof.Gen.QuantXRefIdeal.Frame
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpRefIdeal
public import proofs.«01_k».proof.Proof.Gen.GateUpRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Skeleton
public import proofs.«01_k».proof.Proof.Gen.DownRefIdeal.Launch
public import proofs.«01_k».proof.Proof.Gen.DownRefIdeal.Points
public import proofs.«01_k».proof.Proof.Gen.DownRefIdeal.Frame
public import proofs.«01_k».proof.Proof.Gen.DownRefIdeal.Value
public import proofs.«01_k».proof.Proof.Gen.DAct
public import proofs.«01_k».proof.Proof.Gen.DAct.Frame
public import proofs.«01_k».proof.Proof.Gen.DActIdeal
public import proofs.«01_k».proof.Proof.Gen.DActIdeal.Frame
public import proofs.«01_k».proof.Proof.Gen.DActRefIdeal
public import proofs.«01_k».proof.Proof.Gen.DvGateIdeal.Value
public import proofs.«01_k».proof.Proof.Gen.DvDownIdeal.Value
public import proofs.«01_k».proof.Proof.Gen.DActIdeal.Value
public import proofs.«01_k».proof.Proof.Gen.QuantXIdeal.Value
public import proofs.«01_k».proof.Proof.Gen.QuantXRefIdeal.Value
public import proofs.«01_k».proof.Proof.Gen.DvGateRefIdeal.Run
public import proofs.«01_k».proof.Proof.Gen.DvDownRefIdeal.Run
public import proofs.«01_k».proof.Proof.Gen.DActRefIdeal.Run
public import proofs.«01_k».proof.Proof.DvGateAlg
public import proofs.«01_k».proof.Proof.DvDownAlg
public import proofs.«01_k».proof.Proof.DActAlg
public import proofs.«01_k».proof.Proof.GateUpFrame
public import proofs.«01_k».proof.Proof.GateUpAlg
public import proofs.«01_k».proof.Proof.QuantXAlg
public import proofs.«01_k».proof.Proof.DownFrame
public import proofs.«01_k».proof.Proof.DownAlg
public import Idealize.ShloMosaic.Lib.Claim
public import Idealize.ShloMosaic.Adequacy
public import Idealize.ShloMosaic.Init

@[expose] public section

noncomputable section

namespace Cert.Proof

open Idealize.ShloMosaic Idealize.SL.Sem

/-- The plain reference of `DvGate` terminates and leaves its arguments as they were. -/
theorem frame_DvGateRef : Cert.quiescent_DvGateRefIdeal := fun m g _ =>
  (θ_run Cert.DvGateRefIdeal.defs _ _).mono (fun r h => ⟨fun c => (h c).2, sem_eq_zero_of_no_sems (by decide) r.2⟩)
    (Cert.DvGateRefIdeal.Value.run m g)

/-- The plain reference of `DvDown` terminates and leaves its arguments as they were. -/
theorem frame_DvDownRef : Cert.quiescent_DvDownRefIdeal := fun m g _ =>
  (θ_run Cert.DvDownRefIdeal.defs _ _).mono (fun r h => ⟨fun c => (h c).2, sem_eq_zero_of_no_sems (by decide) r.2⟩)
    (Cert.DvDownRefIdeal.Value.run m g)

/-- The plain reference of `GateUp` terminates and leaves its arguments as they were. -/
theorem frame_GateUpRef : Cert.quiescent_GateUpRefIdeal := fun m g _ =>
  (θ_run Cert.GateUpRefIdeal.defs _ _).mono (fun r h => ⟨fun c => (h c).2.2.2.2, sem_eq_zero_of_no_sems (by decide) r.2⟩)
    (Cert.GateUpRefIdeal.Value.run m g)

/-- The plain reference of `DAct` terminates and leaves its arguments as they were. -/
theorem frame_DActRef : Cert.quiescent_DActRefIdeal := fun m g _ =>
  (θ_run Cert.DActRefIdeal.defs _ _).mono (fun r h => ⟨fun c => (h c).2.2, sem_eq_zero_of_no_sems (by decide) r.2⟩)
    (Cert.DActRefIdeal.Value.run m g)

theorem claim : Cert.Claim :=
  ⟨Cert.DvGate.Gen.facts, Cert.DvGateIdeal.Gen.facts, Cert.DvGateRefIdeal.Gen.facts, Cert.DvDown.Gen.facts, Cert.DvDownIdeal.Gen.facts, Cert.DvDownRefIdeal.Gen.facts, Cert.QuantX.Gen.facts, Cert.QuantXIdeal.Gen.facts, Cert.QuantXRefIdeal.Gen.facts, Cert.GateUp.Gen.facts, Cert.GateUpIdeal.Gen.facts, Cert.GateUpRefIdeal.Gen.facts, Cert.Down.Gen.facts, Cert.DownIdeal.Gen.facts, Cert.DownRefIdeal.Gen.facts, Cert.DAct.Gen.facts, Cert.DActIdeal.Gen.facts, Cert.DActRefIdeal.Gen.facts,
   fun m ρ _ => Cert.DvGate.Gen.frame m ρ,
   fun m ρ _ => Cert.DvGateIdeal.Gen.frame m ρ,
   frame_DvGateRef,
   fun m ρ _ => Cert.DvDown.Gen.frame m ρ,
   fun m ρ _ => Cert.DvDownIdeal.Gen.frame m ρ,
   frame_DvDownRef,
   fun m ρ _ => Cert.QuantX.Gen.frame m ρ,
   fun m ρ _ => Cert.QuantXIdeal.Gen.frame m ρ,
   fun m ρ _ => Cert.QuantXRefIdeal.Gen.frame m ρ,
   fun m ρ _ => Cert.GateUp.Gen.frame m ρ,
   fun m ρ _ => Cert.GateUpIdeal.Gen.frame m ρ,
   frame_GateUpRef,
   fun m ρ _ => Cert.Down.Gen.frame m ρ,
   fun m ρ _ => Cert.DownIdeal.Gen.frame m ρ,
   fun m ρ _ => Cert.DownRefIdeal.Gen.frame m ρ,
   fun m ρ _ => Cert.DAct.Gen.frame m ρ,
   fun m ρ _ => Cert.DActIdeal.Gen.frame m ρ,
   frame_DActRef,
   trivial,
   algebraic_dvGate,
   trivial,
   algebraic_dvDown,
   trivial,
   algebraic_quantX,
   trivial,
   algebraic_gateUp,
   trivial,
   algebraic_down,
   trivial,
   algebraic_dAct⟩

end Cert.Proof

end
